-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![128, 4096]⟩ ⟨2, ![4096, 4096]⟩ 0 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![4096, 256]⟩ ⟨2, ![4096, 8192]⟩ 1 32 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![4096, 256]⟩ ⟨2, ![4096, 8192]⟩ 1 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S128x4096 : Shape := ⟨2, ![128, 4096]⟩
abbrev S4096x256 : Shape := ⟨2, ![4096, 256]⟩
abbrev S1 : Shape := ⟨1, ![1]⟩
abbrev S32x128x4096 : Shape := ⟨3, ![32, 128, 4096]⟩
abbrev S31 : Shape := ⟨1, ![31]⟩
abbrev S_ : Shape := ⟨0, ![]⟩
abbrev S1x128x4096 : Shape := ⟨3, ![1, 128, 4096]⟩
abbrev S128x256 : Shape := ⟨2, ![128, 256]⟩

abbrev nBuf : Space → Nat
  | .hbm => 5
  | .vmem => 5
  | .smem => 2
  | _ => 0

abbrev bufTy : (tb : Table) → Fin (tcTables nBuf tb) → BufTy
  | .hbm, ⟨0, _⟩ => ⟨S128x4096, .fp8e4m3⟩
  | .hbm, ⟨1, _⟩ => ⟨S4096x256, .fp8e5m2⟩
  | .hbm, ⟨2, _⟩ => ⟨S1, .f32⟩
  | .hbm, ⟨3, _⟩ => ⟨S1, .f32⟩
  | .hbm, ⟨4, _⟩ => ⟨S4096x256, .f32⟩
  | .local _ .vmem, ⟨0, _⟩ => ⟨S128x4096, .fp8e4m3⟩
  | .local _ .vmem, ⟨1, _⟩ => ⟨S4096x256, .fp8e5m2⟩
  | .local _ .vmem, ⟨2, _⟩ => ⟨S4096x256, .f32⟩
  | .local _ .vmem, ⟨3, _⟩ => ⟨S32x128x4096, .fp8e4m3⟩
  | .local _ .vmem, ⟨4, _⟩ => ⟨S4096x256, .bf16⟩
  | .local _ .smem, ⟨0, _⟩ => ⟨S1, .f32⟩
  | .local _ .smem, ⟨1, _⟩ => ⟨S1, .f32⟩
  | _, _ => ⟨S128x4096, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .smem, ⟨0, _⟩ => true
  | .smem, ⟨1, _⟩ => true
  | _, _ => false

abbrev semScoped : Fin 1 → Bool
  | ⟨0, _⟩ => false
  | _ => false

abbrev dmaSemScoped : Fin 67 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | _ => false

abbrev sig : RefSig :=
  (ofTc nBuf bufTy 1 67 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg4_0 : Ref sig .tc := ⟨.vmem, 2, rfl⟩
abbrev cc0_scratch0 : Ref sig .tc := ⟨.vmem, 3, rfl⟩
abbrev cc0_scratch1 : Ref sig .tc := ⟨.vmem, 4, rfl⟩
abbrev cc0_stg2_0 : Ref sig .tc := ⟨.smem, 0, rfl⟩
abbrev cc0_stg3_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_6 : BitVec 32 := 1#32
  let v9 : BitVec 32 := Scalar.muli v5 c1_i32_6
  let v10 : BitVec 32 := Scalar.addi c0_i32 v9
  v10.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_8 : BitVec 32 := 1#32
  let v11 : BitVec 32 := Scalar.muli v7 c1_i32_8
  let v12 : BitVec 32 := Scalar.addi c0_i32_9 v11
  v12.toNat
def k0_dev3 (d0 : Dev nD) : Nat :=
  let c0_i32_25 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_24 : BitVec 32 := 1#32
  let v27 : BitVec 32 := Scalar.muli v7 c1_i32_24
  let v28 : BitVec 32 := Scalar.addi c0_i32_25 v27
  v28.toNat
def k0_dev4 (d0 : Dev nD) : Nat :=
  let c0_i32_54 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_53 : BitVec 32 := 1#32
  let v51 : BitVec 32 := Scalar.muli v7 c1_i32_53
  let v52 : BitVec 32 := Scalar.addi c0_i32_54 v51
  v52.toNat
def k0_dev5 (d0 : Dev nD) : Nat :=
  let c0_i32_82 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_81 : BitVec 32 := 1#32
  let v75 : BitVec 32 := Scalar.muli v7 c1_i32_81
  let v76 : BitVec 32 := Scalar.addi c0_i32_82 v75
  v76.toNat
def k0_dev6 (d0 : Dev nD) : Nat :=
  let c0_i32_110 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_109 : BitVec 32 := 1#32
  let v99 : BitVec 32 := Scalar.muli v7 c1_i32_109
  let v100 : BitVec 32 := Scalar.addi c0_i32_110 v99
  v100.toNat
def k0_dev7 (d0 : Dev nD) : Nat :=
  let c0_i32_138 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_137 : BitVec 32 := 1#32
  let v123 : BitVec 32 := Scalar.muli v7 c1_i32_137
  let v124 : BitVec 32 := Scalar.addi c0_i32_138 v123
  v124.toNat
def k0_dev8 (d0 : Dev nD) : Nat :=
  let c0_i32_166 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_165 : BitVec 32 := 1#32
  let v147 : BitVec 32 := Scalar.muli v7 c1_i32_165
  let v148 : BitVec 32 := Scalar.addi c0_i32_166 v147
  v148.toNat
def k0_dev9 (d0 : Dev nD) : Nat :=
  let c0_i32_194 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_193 : BitVec 32 := 1#32
  let v171 : BitVec 32 := Scalar.muli v7 c1_i32_193
  let v172 : BitVec 32 := Scalar.addi c0_i32_194 v171
  v172.toNat
def k0_dev10 (d0 : Dev nD) : Nat :=
  let c0_i32_222 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_221 : BitVec 32 := 1#32
  let v195 : BitVec 32 := Scalar.muli v7 c1_i32_221
  let v196 : BitVec 32 := Scalar.addi c0_i32_222 v195
  v196.toNat
def k0_dev11 (d0 : Dev nD) : Nat :=
  let c0_i32_250 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_249 : BitVec 32 := 1#32
  let v219 : BitVec 32 := Scalar.muli v7 c1_i32_249
  let v220 : BitVec 32 := Scalar.addi c0_i32_250 v219
  v220.toNat
def k0_dev12 (d0 : Dev nD) : Nat :=
  let c0_i32_278 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_277 : BitVec 32 := 1#32
  let v243 : BitVec 32 := Scalar.muli v7 c1_i32_277
  let v244 : BitVec 32 := Scalar.addi c0_i32_278 v243
  v244.toNat
def k0_dev13 (d0 : Dev nD) : Nat :=
  let c0_i32_306 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_305 : BitVec 32 := 1#32
  let v267 : BitVec 32 := Scalar.muli v7 c1_i32_305
  let v268 : BitVec 32 := Scalar.addi c0_i32_306 v267
  v268.toNat
def k0_dev14 (d0 : Dev nD) : Nat :=
  let c0_i32_334 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_333 : BitVec 32 := 1#32
  let v291 : BitVec 32 := Scalar.muli v7 c1_i32_333
  let v292 : BitVec 32 := Scalar.addi c0_i32_334 v291
  v292.toNat
def k0_dev15 (d0 : Dev nD) : Nat :=
  let c0_i32_362 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_361 : BitVec 32 := 1#32
  let v315 : BitVec 32 := Scalar.muli v7 c1_i32_361
  let v316 : BitVec 32 := Scalar.addi c0_i32_362 v315
  v316.toNat
def k0_dev16 (d0 : Dev nD) : Nat :=
  let c0_i32_390 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_389 : BitVec 32 := 1#32
  let v339 : BitVec 32 := Scalar.muli v7 c1_i32_389
  let v340 : BitVec 32 := Scalar.addi c0_i32_390 v339
  v340.toNat
def k0_dev17 (d0 : Dev nD) : Nat :=
  let c0_i32_418 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_417 : BitVec 32 := 1#32
  let v363 : BitVec 32 := Scalar.muli v7 c1_i32_417
  let v364 : BitVec 32 := Scalar.addi c0_i32_418 v363
  v364.toNat
def k0_dev18 (d0 : Dev nD) : Nat :=
  let c0_i32_446 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_445 : BitVec 32 := 1#32
  let v387 : BitVec 32 := Scalar.muli v7 c1_i32_445
  let v388 : BitVec 32 := Scalar.addi c0_i32_446 v387
  v388.toNat
def k0_dev19 (d0 : Dev nD) : Nat :=
  let c0_i32_474 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_473 : BitVec 32 := 1#32
  let v411 : BitVec 32 := Scalar.muli v7 c1_i32_473
  let v412 : BitVec 32 := Scalar.addi c0_i32_474 v411
  v412.toNat
def k0_dev20 (d0 : Dev nD) : Nat :=
  let c0_i32_502 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_501 : BitVec 32 := 1#32
  let v435 : BitVec 32 := Scalar.muli v7 c1_i32_501
  let v436 : BitVec 32 := Scalar.addi c0_i32_502 v435
  v436.toNat
def k0_dev21 (d0 : Dev nD) : Nat :=
  let c0_i32_530 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_529 : BitVec 32 := 1#32
  let v459 : BitVec 32 := Scalar.muli v7 c1_i32_529
  let v460 : BitVec 32 := Scalar.addi c0_i32_530 v459
  v460.toNat
def k0_dev22 (d0 : Dev nD) : Nat :=
  let c0_i32_558 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_557 : BitVec 32 := 1#32
  let v483 : BitVec 32 := Scalar.muli v7 c1_i32_557
  let v484 : BitVec 32 := Scalar.addi c0_i32_558 v483
  v484.toNat
def k0_dev23 (d0 : Dev nD) : Nat :=
  let c0_i32_586 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_585 : BitVec 32 := 1#32
  let v507 : BitVec 32 := Scalar.muli v7 c1_i32_585
  let v508 : BitVec 32 := Scalar.addi c0_i32_586 v507
  v508.toNat
def k0_dev24 (d0 : Dev nD) : Nat :=
  let c0_i32_614 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_613 : BitVec 32 := 1#32
  let v531 : BitVec 32 := Scalar.muli v7 c1_i32_613
  let v532 : BitVec 32 := Scalar.addi c0_i32_614 v531
  v532.toNat
def k0_dev25 (d0 : Dev nD) : Nat :=
  let c0_i32_642 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_641 : BitVec 32 := 1#32
  let v555 : BitVec 32 := Scalar.muli v7 c1_i32_641
  let v556 : BitVec 32 := Scalar.addi c0_i32_642 v555
  v556.toNat
def k0_dev26 (d0 : Dev nD) : Nat :=
  let c0_i32_670 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_669 : BitVec 32 := 1#32
  let v579 : BitVec 32 := Scalar.muli v7 c1_i32_669
  let v580 : BitVec 32 := Scalar.addi c0_i32_670 v579
  v580.toNat
def k0_dev27 (d0 : Dev nD) : Nat :=
  let c0_i32_698 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_697 : BitVec 32 := 1#32
  let v603 : BitVec 32 := Scalar.muli v7 c1_i32_697
  let v604 : BitVec 32 := Scalar.addi c0_i32_698 v603
  v604.toNat
def k0_dev28 (d0 : Dev nD) : Nat :=
  let c0_i32_726 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_725 : BitVec 32 := 1#32
  let v627 : BitVec 32 := Scalar.muli v7 c1_i32_725
  let v628 : BitVec 32 := Scalar.addi c0_i32_726 v627
  v628.toNat
def k0_dev29 (d0 : Dev nD) : Nat :=
  let c0_i32_754 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_753 : BitVec 32 := 1#32
  let v651 : BitVec 32 := Scalar.muli v7 c1_i32_753
  let v652 : BitVec 32 := Scalar.addi c0_i32_754 v651
  v652.toNat
def k0_dev30 (d0 : Dev nD) : Nat :=
  let c0_i32_782 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_781 : BitVec 32 := 1#32
  let v675 : BitVec 32 := Scalar.muli v7 c1_i32_781
  let v676 : BitVec 32 := Scalar.addi c0_i32_782 v675
  v676.toNat
def k0_dev31 (d0 : Dev nD) : Nat :=
  let c0_i32_810 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_809 : BitVec 32 := 1#32
  let v699 : BitVec 32 := Scalar.muli v7 c1_i32_809
  let v700 : BitVec 32 := Scalar.addi c0_i32_810 v699
  v700.toNat
def k0_dev32 (d0 : Dev nD) : Nat :=
  let c0_i32_838 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_837 : BitVec 32 := 1#32
  let v723 : BitVec 32 := Scalar.muli v7 c1_i32_837
  let v724 : BitVec 32 := Scalar.addi c0_i32_838 v723
  v724.toNat
def k0_dev33 (d0 : Dev nD) : Nat :=
  let c0_i32_866 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_865 : BitVec 32 := 1#32
  let v747 : BitVec 32 := Scalar.muli v7 c1_i32_865
  let v748 : BitVec 32 := Scalar.addi c0_i32_866 v747
  v748.toNat
def k0_off1 (d0 : Dev nD) (c0_i32_890 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v771 : BitVec 32 := Scalar.subi v2 c0_i32_890
  let c32_i32_891 : BitVec 32 := 32#32
  let v772 : BitVec 32 := Scalar.addi v771 c32_i32_891
  let c32_i32_892 : BitVec 32 := 32#32
  let v773 : BitVec 32 := Scalar.remsi v772 c32_i32_892
  let c128_i32 : BitVec 32 := 128#32
  let v791 : BitVec 32 := Scalar.muli v773 c128_i32
  let v792 : Index := Scalar.indexCast v791
  let c0_902 : Index := 0#32
  ![v792.toNat, 0]
abbrev stage0_0 : Fin 1 → Memref sig .tc .vmem S128x4096 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x256 .fp8e5m2 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4096x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S4096x4096 : Shape := ⟨2, ![4096, 4096]⟩
abbrev S4096x8192 : Shape := ⟨2, ![4096, 8192]⟩
abbrev S1 : Shape := ⟨1, ![1]⟩
abbrev S1x1 : Shape := ⟨2, ![1, 1]⟩

abbrev nBuf : Space → Nat
  | .hbm => 5
  | .vmem => 5
  | .smem => 0
  | _ => 0

abbrev bufTy : (tb : Table) → Fin (tcTables nBuf tb) → BufTy
  | .hbm, ⟨0, _⟩ => ⟨S4096x4096, .fp8e4m3⟩
  | .hbm, ⟨1, _⟩ => ⟨S4096x8192, .fp8e5m2⟩
  | .hbm, ⟨2, _⟩ => ⟨S1, .f32⟩
  | .hbm, ⟨3, _⟩ => ⟨S1, .f32⟩
  | .hbm, ⟨4, _⟩ => ⟨S4096x8192, .f32⟩
  | .local _ .vmem, ⟨0, _⟩ => ⟨S4096x4096, .fp8e4m3⟩
  | .local _ .vmem, ⟨1, _⟩ => ⟨S4096x8192, .fp8e5m2⟩
  | .local _ .vmem, ⟨2, _⟩ => ⟨S1, .f32⟩
  | .local _ .vmem, ⟨3, _⟩ => ⟨S1, .f32⟩
  | .local _ .vmem, ⟨4, _⟩ => ⟨S4096x8192, .f32⟩
  | _, _ => ⟨S4096x4096, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S4096x4096 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x8192 .fp8e5m2 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4096x8192 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Proof.Same.lean ====
/-
  The kernel and its idealization are one text under two names: the same body, hence the same body table and the same program.
-/
module

public import proofs.«01_k».proof.Proof.Gen.Kernel
public import proofs.«01_k».proof.Proof.Gen.KernelIdeal

@[expose] public section

set_option maxRecDepth 65536
set_option maxHeartbeats 4000000

noncomputable section

namespace Cert.GatherMul

open Idealize.ShloMosaic Idealize.ShloMosaic.TcCoe Idealize.SL.Sem

variable {F : FTy → Type} [FloatOps F]

theorem same_body : @Cert.Kernel.cc0_body F _ _ = @Cert.KernelIdeal.cc0_body F _ _ := rfl

theorem same_table : @Cert.Kernel.defs₀ F _ _ = @Cert.KernelIdeal.defs₀ F _ _ := by
  unfold Cert.Kernel.defs₀ Cert.KernelIdeal.defs₀
  refine congrArg Defs.onTc (funext fun l => funext fun a => ?_)
  match l, a with
  | 0, (t, s) =>
    show Cert.Kernel.cc0_body _ _ _ _ _ _ _ _ _ _ _ _ _ _ _ _ = Cert.KernelIdeal.cc0_body _ _ _ _ _ _ _ _ _ _ _ _ _ _ _ _
    rw [same_body]

theorem same_defs : @Cert.Kernel.defs F _ _ = @Cert.KernelIdeal.defs F _ _ :=
  congrArg (Pipeline.defs Cert.KernelIdeal.pcfgs) same_table

theorem same_main : (Cert.Kernel.main (F := F)) = (Cert.KernelIdeal.main (F := F)) := rfl

/-- What the idealization's runs guarantee, the kernel's do. -/
theorem same_runs (s : MemSt Cert.Kernel.nD Cert.Kernel.τ Cert.Kernel.sig (Elt F)) (Q : PUnit × MemSt Cert.Kernel.nD Cert.Kernel.τ Cert.Kernel.sig (Elt F) → Prop)
    (h : θ_run (Cert.KernelIdeal.defs (F := F)) (onTc (τ := Cert.KernelIdeal.τ) (Cert.KernelIdeal.main (F := F))) s Q) :
    θ_run (Cert.Kernel.defs (F := F)) (onTc (τ := Cert.Kernel.τ) (Cert.Kernel.main (F := F))) s Q := by
  rw [same_defs, same_main]; exact h

end Cert.GatherMul

end
-- ==== Proof.Shape.lean ====
/-
  The kernel's body as a recursion: the handshake and the staging of its own operands, then thirty-one hops (start the copy of
  slot `h` into the right neighbour's slot `h + 1`, wait for it to leave, wait for the left neighbour's to land), then
  thirty-two steps (multiply slot `s` by the staged weights, apply the activation, store the block of rows it belongs to).
  `body_eq` says the printed body is that recursion.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Regions

@[expose] public section

set_option maxRecDepth 16384

noncomputable section

namespace Cert.GatherMul

open Cert.KernelIdeal Cert.KernelIdeal.Gen
open Idealize.ShloMosaic Idealize.ShloMosaic.TcCoe
open Idealize.SL Idealize.SL.Sem

variable {F : FTy → Type} [FloatOps F]

/-! ## The buffers, the slots and the semaphores -/

abbrev xM : Memref sig .tc .vmem S128x4096 .fp8e4m3 := Memref.whole cc0_stg0_0
abbrev wM : Memref sig .tc .vmem S4096x256 .fp8e5m2 := Memref.whole cc0_stg1_0
abbrev aM : Memref sig .tc .smem S1 .f32 := Memref.whole cc0_stg2_0
abbrev bM : Memref sig .tc .smem S1 .f32 := Memref.whole cc0_stg3_0
abbrev oM : Memref sig .tc .vmem S4096x256 .f32 := Memref.whole cc0_stg4_0
abbrev gM : Memref sig .tc .vmem S32x128x4096 .fp8e4m3 := Memref.whole cc0_scratch0
abbrev uM : Memref sig .tc .vmem S4096x256 .bf16 := Memref.whole cc0_scratch1

theorem slot_inb : ∀ s : Fin 32, ∀ a, (![s.val, 0, 0] : Fin 3 → Nat) a + S1x128x4096.size a ≤ S32x128x4096.size a := by decide
theorem slot_words : ∀ s : Fin 32, (Rect.unit (s := S32x128x4096) ![s.val, 0, 0] S1x128x4096.size (slot_inb s)).WholeWords (EltTy.packing .fp8e4m3) := by decide
theorem hop_inb : ∀ h : Fin 31, ∀ a, (![h.val] : Fin 1 → Nat) a + S1.size a ≤ S31.size a := by decide

/-- Slot `s` of the gather buffer, as the rectangle of one plane; -/
abbrev slotR (s : Fin 32) : Rect S32x128x4096 := Rect.unit (s := S32x128x4096) ![s.val, 0, 0] S1x128x4096.size (slot_inb s)
/-- and as a matrix of its own. -/
abbrev slotM (s : Fin 32) : Memref sig .tc .vmem S128x4096 .fp8e4m3 :=
  (gM.slice (slotR s) (fun _ => rfl)).squeeze S128x4096 squeezes_S1x128x4096_S128x4096

set_option backward.proofsInPublic true in
theorem slot_exact (s : Fin 32) : (slotM s).view.WordExact :=
  ((Memref.isWhole_whole cc0_scratch0).wordExact_slice rfl _ (slot_words s)).reshape _ _

/-- The semaphore hop `h`'s copy reports its departure on, and the one it reports its arrival on. -/
abbrev sendS (h : Fin 31) : DmaSems sig S_ := (cc0_scratch2.slice (Rect.unit (s := S31) ![h.val] S1.size (hop_inb h))).squeeze S_ squeezes_S1_S_
abbrev recvS (h : Fin 31) : DmaSems sig S_ := (cc0_scratch3.slice (Rect.unit (s := S31) ![h.val] S1.size (hop_inb h))).squeeze S_ squeezes_S1_S_
/-- The semaphore the devices meet on before the first copy. -/
abbrev barS : Sem sig := (SemArray.scalar (sig.barrier 0 rfl) : Sems sig S_).sem

/-- Hop `h` copies from slot `h`, into slot `h + 1`. -/
abbrev src (h : Fin 31) : Fin 32 := h.castSucc
abbrev dst (h : Fin 31) : Fin 32 := h.succ

/-! ## The pieces of the body -/

/-- The three operations of hop `h` on device `d`. -/
def hop (d : Dev nD) (h : Fin 31) : Prog (TpuEff nD τ sig (Elt F) Λ₀ .tc) PUnit := do
  Prog.lift (.enqueueDma (slotM (src h)) (.remote (Dev.tc (⟨k0_dev3 d, k0_dev3_lt d⟩ : Dev nD)) (slotM (dst h)) (.dma (sendS h).sem)) (.dma (recvS h).sem)
    (slot_exact (src h)) (slot_exact (dst h)) ⟨⟨rfl, Or.inl rfl⟩, trivial⟩)
  Prog.lift (.waitDma2 (sendS h).sem (slotM (dst h)) (slotM (src h)) (slot_exact (dst h)) (slot_exact (src h)))
  Prog.lift (.waitDma2 (recvS h).sem (slotM (src h)) (slotM (dst h)) (slot_exact (src h)) (slot_exact (dst h)))

/-- The block of rows of the result that device `d` fills at step `s`. -/
abbrev outR (d : Dev nD) (s : Fin 32) : Rect S4096x256 :=
  Rect.unit (s := S4096x256) (k0_off1 d (BitVec.ofNat 32 s.val)) S128x256.size (k0_off1_inb d s)
/-- The whole of the staged weights. -/
abbrev allR : Rect S4096x256 := Rect.unit (s := S4096x256) ![0, 0] S4096x256.size inb_S4096x256_S4096x256_0_0
abbrev allX : Rect S128x4096 := Rect.unit (s := S128x4096) ![0, 0] S128x4096.size inb_S128x4096_S128x4096_0_0

/-- Step `s` on device `d`, the scales' product being `v`. -/
def step (d : Dev nD) (v : F .f32) (s : Fin 32) : Prog (TpuEff nD τ sig (Elt F) Λ₀ .tc) PUnit := do
  let a : Vec F S1x128x4096 .fp8e4m3 ← Prog.lift (.load gM (slotR s).toLoadRect (View.loadsAt_vmem h_S1x128x4096))
  let b : Vec F S4096x256 .bf16 ← Prog.lift (.load uM allR.toLoadRect (View.loadsAt_vmem h_S4096x256))
  let _ : Vec F S128x256 .f32 ← Prog.lift (.load oM (outR d s).toLoadRect (View.loadsAt_vmem h_S128x256))
  Prog.lift (.store oM (outR d s) (k0_pay1 v a b) Finset.univ (View.stores_vmem_bits_univ h_S128x256 rfl) (.inl rfl))

/-- A program for each number below `N`, in order. -/
def each : (N : ℕ) → (Fin N → Prog (TpuEff nD τ sig (Elt F) Λ₀ .tc) PUnit) → Prog (TpuEff nD τ sig (Elt F) Λ₀ .tc) PUnit
  | 0, _ => pure ⟨⟩
  | N + 1, p => p 0 >>= fun _ => each N fun k => p k.succ

/-- The device, and the product of the two scales. -/
abbrev Known (F : FTy → Type) : Type := Σ' (d0 : Dev nD) (v2 : BitVec 32) (v7 : BitVec 32), F .f32

/-- The first window of the printed body, at the buffers the launch calls it with. -/
abbrev opening : Prog (TpuEff nD τ sig (Elt F) Λ₀ .tc) (Known F) :=
  k0_part1 xM (Memref.isWhole_whole _) wM (Memref.isWhole_whole _) aM (Memref.isWhole_whole _) bM (Memref.isWhole_whole _) oM (Memref.isWhole_whole _)
    gM (Memref.isWhole_whole _) uM (Memref.isWhole_whole _) cc0_scratch2 cc0_scratch3

abbrev bodyP : Prog (TpuEff nD τ sig (Elt F) Λ₀ .tc) PUnit :=
  cc0_body xM (Memref.isWhole_whole _) wM (Memref.isWhole_whole _) aM (Memref.isWhole_whole _) bM (Memref.isWhole_whole _) oM (Memref.isWhole_whole _)
    gM (Memref.isWhole_whole _) uM (Memref.isWhole_whole _) cc0_scratch2 cc0_scratch3

/-- The printed body is the opening, the hops and the steps. -/
theorem body_eq : bodyP (F := F)
    = (opening >>= fun k => each 31 (hop k.1) >>= fun _ => each 32 (step k.1 k.2.2.2)) := by
  chain_rfl

end Cert.GatherMul

end
-- ==== Proof.Proto.lean ====
/-
  The protocol of the gather: each device has one semaphore it is met on by both neighbours, and for each of the thirty-one
  hops one semaphore its own copy leaves by and one its left neighbour's copy arrives by. What each signal pays, what it hands
  over, what a device owes when it starts, and the order the waits respect.
-/
module

public import proofs.«01_k».proof.Proof.Shape
public import Idealize.ShloMosaic.Lib.Pipeline.Launch
public import Idealize.ShloMosaic.Lib.Pipeline.Kit
public import Idealize.ShloMosaic.Lib.Tactic

@[expose] public section

set_option maxRecDepth 16384

noncomputable section

namespace Cert.GatherMul

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## The ring of devices -/

set_option backward.proofsInPublic true in
/-- The device to the right; -/
def nxt (c : Dev nD) : Dev nD := ⟨(c.val + 1) % 32, Nat.mod_lt _ (by decide)⟩
set_option backward.proofsInPublic true in
/-- to the left; -/
def prv (c : Dev nD) : Dev nD := ⟨(c.val + 31) % 32, Nat.mod_lt _ (by decide)⟩
set_option backward.proofsInPublic true in
/-- and `k` places to the left. -/
def back (c : Dev nD) (k : Fin 32) : Dev nD := ⟨(c.val + 32 - k.val) % 32, Nat.mod_lt _ (by decide)⟩

theorem prv_nxt (c : Dev nD) : prv (nxt c) = c := by revert c; decide
theorem nxt_prv (c : Dev nD) : nxt (prv c) = c := by revert c; decide
def around : Dev nD ≃ Dev nD := ⟨nxt, prv, prv_nxt, nxt_prv⟩

theorem back_zero (c : Dev nD) : back c 0 = c := by revert c; decide
theorem back_dst (c : Dev nD) (h : Fin 31) : back (nxt c) (dst h) = back c (src h) := by
  apply Fin.ext
  have hc : c.val < 32 := c.isLt
  have hh := h.isLt
  show ((c.val + 1) % 32 + 32 - (h.val + 1)) % 32 = (c.val + 32 - h.val) % 32
  omega

theorem dev1_prv (c : Dev nD) : (⟨k0_dev1 c, k0_dev1_lt c⟩ : Dev nD) = prv c := Fin.ext (k0_dev1_eq c)
theorem dev2_nxt (c : Dev nD) : (⟨k0_dev2 c, k0_dev2_lt c⟩ : Dev nD) = nxt c := Fin.ext (k0_dev2_eq c)
theorem dev3_nxt (c : Dev nD) : (⟨k0_dev3 c, k0_dev3_lt c⟩ : Dev nD) = nxt c := Fin.ext (k0_dev3_eq c)

/-! ## The cells -/

/-- A device's cells: the meeting semaphore, then the departures and the arrivals. -/
abbrev Cell : Type := Unit ⊕ (Fin 31 ⊕ Fin 31)
abbrev meetC : Cell := .inl ()
abbrev leaveC (h : Fin 31) : Cell := .inr (.inl h)
abbrev landC (h : Fin 31) : Cell := .inr (.inr h)

/-- The semaphores of the hops, departures first. -/
abbrev hsem : Fin 31 ⊕ Fin 31 → SemLoc sig
  | .inl h => .dma (sendS h).sem
  | .inr h => .dma (recvS h).sem
abbrev csem : Cell → SemLoc sig
  | .inl _ => .reg barS
  | .inr x => hsem x
abbrev cell (c : Dev nD) (k : Cell) : GSem nD τ sig := ((c : Thread nD τ), csem k)

theorem sendS_val : ∀ h : Fin 31, ((sendS h).sem : DmaSem sig).val = 5 + h.val := by decide
theorem recvS_val : ∀ h : Fin 31, ((recvS h).sem : DmaSem sig).val = 36 + h.val := by decide

set_option backward.proofsInPublic true in
/-- Which cell a semaphore is. -/
def role : SemLoc sig → Option Cell
  | .reg s => if s = barS then some meetC else none
  | .dma q =>
    if h : 5 ≤ q.val ∧ q.val < 36 then some (leaveC ⟨q.val - 5, by omega⟩)
    else if h : 36 ≤ q.val ∧ q.val < 67 then some (landC ⟨q.val - 36, by omega⟩) else none

theorem role_csem (k : Cell) : role (csem k) = some k := by
  rcases k with _ | h | h
  · exact (if_pos rfl : (if barS = barS then some meetC else none) = some meetC)
  · show role (.dma (sendS h).sem) = _
    have e := sendS_val h; have hh := h.isLt
    unfold role; dsimp only
    rw [dif_pos ⟨by omega, by omega⟩]
    exact congrArg (fun x => some (leaveC x)) (Fin.ext (by show (sendS h).sem.val - 5 = h.val; omega))
  · show role (.dma (recvS h).sem) = _
    have e := recvS_val h; have hh := h.isLt
    unfold role; dsimp only
    rw [dif_neg (fun w => by omega), dif_pos ⟨by omega, by omega⟩]
    exact congrArg (fun x => some (landC x)) (Fin.ext (by show (recvS h).sem.val - 36 = h.val; omega))

theorem csem_injective : Function.Injective csem := fun a b h => by
  have := congrArg role h; rw [role_csem, role_csem] at this; exact Option.some.inj this
theorem cell_inj {c d : Dev nD} {k l : Cell} (h : cell c k = cell d l) : c = d ∧ k = l :=
  ⟨congrArg (fun g : GSem nD τ sig => g.1.1) h, csem_injective (congrArg Prod.snd h)⟩

/-- A slot's credit, the same for every slot. -/
abbrev N : ℕ := (slotM 0).view.dmaCredit
theorem N_pos : 0 < N := View.dmaCredit_pos _ (by decide)
theorem credit_slot (s : Fin 32) : (slotM s).view.dmaCredit = N := rfl

/-! ## The contents -/

variable (m : (ℓ : Loc nD τ sig) → Buf (Elt F) ℓ) (ρ : Dev nD → PrngReg)

/-- The memory at launch. -/
def s₀ : MemSt nD τ sig (Elt F) := ⟨m, fun _ => 0, ρ⟩

/-- Device `c`'s block of `x`, staged. -/
def xstg (c : Dev nD) : (cc0_stg0_0 : Ref sig .tc).ty.Contents (Elt F) :=
  (win0_0.blk (0 : Fin 1)).view.read (Elt F) ((s₀ m ρ).mem ((c : Thread nD τ).loc main_arg0))

/-- Device `c`'s gather buffer when everything has arrived: slot `k` holds the block of the device `k` places to the left. -/
def gath (c : Dev nD) : (cc0_scratch0 : Ref sig .tc).ty.Contents (Elt F) :=
  fun i : S32x128x4096.Idx => xstg m ρ (back c (i 0)) (fun a => i a.succ)

/-- Device `c` holding slot `s` of its gather buffer, at contents `f`. -/
def slotPts (c : Dev nD) (s : Fin 32) (f : Buf (Elt F) ((c : Thread nD τ).loc cc0_scratch0)) : sProp 𝕄 :=
  (slotM s).view.loc (c : Thread nD τ) ↦[(slotM s).view.set]{fullShare} f

omit [FloatOps F] in
instance slotPts_storable (c : Dev nD) (s : Fin 32) (f) : BI.Storable (upEmb : UEmb _ 𝕄) (slotPts (F := F) c s f) := by
  unfold slotPts; infer_instance

set_option backward.isDefEq.respectTransparency false in
omit [FloatOps F] in
/-- A copy of slot `src h` of device `c`, written into slot `dst h` of the device to the right, is what that device is to
    have there. -/
theorem slotPts_landed (c : Dev nD) (h : Fin 31) (fd : Buf (Elt F) ((nxt c : Thread nD τ).loc cc0_scratch0)) :
    ((slotM (dst h)).view.loc (nxt c : Thread nD τ) ↦[(slotM (dst h)).view.set]{fullShare}
        ((slotM (dst h)).view.write (Elt F) fd ((slotM (src h)).view.read (Elt F) (gath m ρ c)) Finset.univ) : sProp 𝕄)
      ⊢ slotPts (nxt c) (dst h) (gath m ρ (nxt c)) := by
  unfold slotPts
  refine Entails.of_eq (pointsTo_congr fun i hi => ?_)
  rw [View.set, Finset.mem_map] at hi
  obtain ⟨j, -, rfl⟩ := hi
  rw [View.write_emb_of_mem _ _ (Finset.mem_univ j)]
  show gath m ρ c ((slotM (src h)).view.emb j) = gath m ρ (nxt c) ((slotM (dst h)).view.emb j)
  have key : ∀ y : S1x128x4096.Idx, gath m ρ c ((slotR (src h)).emb y) = gath m ρ (nxt c) ((slotR (dst h)).emb y) := fun y => by
    have y0 : (y 0).val = 0 := by have := (y 0).isLt; change (y 0).val < 1 at this; omega
    have e1 : back c ((slotR (src h)).emb y 0) = back c (src h) :=
      congrArg (back c) (Fin.ext (by show (src h).val + 1 * (y 0).val = (src h).val; omega))
    have e2 : back (nxt c) ((slotR (dst h)).emb y 0) = back (nxt c) (dst h) :=
      congrArg (back (nxt c)) (Fin.ext (by show (dst h).val + 1 * (y 0).val = (dst h).val; omega))
    show xstg m ρ (back c ((slotR (src h)).emb y 0)) _ = xstg m ρ (back (nxt c) ((slotR (dst h)).emb y 0)) _
    rw [e1, e2, back_dst]
    rfl
  exact key (Shape.reshapeEquiv squeezes_S1x128x4096_S128x4096.numel_eq j)

/-! ## The schedule -/

/-- What the device to the right hands over when it meets `c`: its slots after the first, whatever they hold. -/
def meetPay (c : Dev nD) : sProp 𝕄 :=
  iprop(∃ f, bigSep Finset.univ fun h : Fin 31 => slotPts (nxt c) (dst h) f)

abbrev dutiesOf : Cell → Finset Bool
  | .inl _ => Finset.univ
  | .inr _ => {false}
abbrev amountOf : Cell → ℕ
  | .inl _ => 1
  | .inr _ => N
/-- What a cell's waiter receives: from the meeting, the right neighbour's slots (the left neighbour's signal hands nothing
    over); from a departure, the slot that left; from an arrival, the slot that was filled. -/
abbrev payOf (c : Dev nD) : Cell → Bool → sProp 𝕄
  | .inl _, true => meetPay c
  | .inl _, false => iprop(emp)
  | .inr (.inl h), _ => slotPts c (src h) (gath m ρ c)
  | .inr (.inr h), _ => slotPts c (dst h) (gath m ρ c)

/-- One round on every cell. -/
def sched : Rounds.Schedule (GSem nD τ sig) Bool 𝕄 where
  duties g r := if r = 0 ∧ g.1.2 = .tc then (role g.2).elim ∅ dutiesOf else ∅
  unitless _ := False
  amount g _ _ := (role g.2).elim 1 amountOf
  payload g _ d := (role g.2).elim iprop(emp) fun k => payOf m ρ g.1.1 k d
  amount_pos g _ _ _ := by
    rcases role g.2 with _ | _ | _
    · exact Nat.one_pos
    · exact Nat.one_pos
    · exact N_pos

instance sched_storable (g : GSem nD τ sig) (r : ℕ) (d : Bool) : BI.Storable (upEmb : UEmb _ 𝕄) ((sched (F := F) m ρ).payload g r d) := by
  show BI.Storable upEmb ((role g.2).elim iprop(emp) fun k => payOf m ρ g.1.1 k d)
  rcases role g.2 with _ | _ | h | h
  · exact inferInstanceAs (BI.Storable upEmb (iprop(emp) : sProp 𝕄))
  · cases d
    · exact inferInstanceAs (BI.Storable upEmb (iprop(emp) : sProp 𝕄))
    · show BI.Storable upEmb (meetPay g.1.1); unfold meetPay; infer_instance
  · exact slotPts_storable _ _ _
  · exact slotPts_storable _ _ _

section Tables
variable (c : Dev nD) (k : Cell)

omit [FloatOps F] in
theorem duties_at : (sched (F := F) m ρ).duties (cell c k) 0 = dutiesOf k := by
  show (if (0 : ℕ) = 0 ∧ (cell c k).1.2 = .tc then (role (csem k)).elim ∅ dutiesOf else ∅) = _
  rw [role_csem]; exact if_pos ⟨rfl, rfl⟩
omit [FloatOps F] in
theorem mem_duties_hop (x : Fin 31 ⊕ Fin 31) : false ∈ (sched (F := F) m ρ).duties (cell c (.inr x)) 0 := by
  rw [duties_at m ρ c (.inr x)]; exact Finset.mem_singleton_self _
omit [FloatOps F] in
theorem duties_later (g : GSem nD τ sig) : ∀ r, 1 ≤ r → (sched (F := F) m ρ).duties g r = ∅ :=
  fun r hr => if_neg fun h => by omega
omit [FloatOps F] in
theorem amount_at (r : ℕ) (d : Bool) : (sched (F := F) m ρ).amount (cell c k) r d = amountOf k := by
  show (role (csem k)).elim 1 amountOf = _; rw [role_csem]; rfl
omit [FloatOps F] in
theorem payload_at (r : ℕ) (d : Bool) : (sched (F := F) m ρ).payload (cell c k) r d = payOf m ρ c k d := by
  show ((role (csem k)).elim iprop(emp) fun k => payOf m ρ c k d) = _; rw [role_csem]; rfl
omit [FloatOps F] in
theorem expect_meet : (sched (F := F) m ρ).expect (cell c meetC) 0 = 2 := by
  unfold Schedule.expect Schedule.amountOf
  rw [duties_at, Finset.sum_congr rfl fun d _ => amount_at m ρ c meetC 0 d]; rfl
omit [FloatOps F] in
theorem expect_hop (x : Fin 31 ⊕ Fin 31) : (sched (F := F) m ρ).expect (cell c (.inr x)) 0 = N := by
  unfold Schedule.expect Schedule.amountOf
  rw [duties_at, Finset.sum_congr rfl fun d _ => amount_at m ρ c (.inr x) 0 d]
  exact Finset.sum_singleton _ _
omit [FloatOps F] in
theorem rest_meet : bigSep ((sched (F := F) m ρ).duties (cell c meetC) 0 \ ∅) (fun d => (sched (F := F) m ρ).payload (cell c meetC) 0 d)
    = iprop(emp ∗ meetPay c) := by
  rw [Finset.sdiff_empty, duties_at, bigSep_univ_eq_bigSepL [false, true] (by decide) (by decide), bigSepL_cons_cons, bigSepL_singleton,
    payload_at, payload_at]
  rfl
omit [FloatOps F] in
theorem rest_hop (x : Fin 31 ⊕ Fin 31) : bigSep ((sched (F := F) m ρ).duties (cell c (.inr x)) 0 \ ∅)
    (fun d => (sched (F := F) m ρ).payload (cell c (.inr x)) 0 d) = payOf m ρ c (.inr x) false := by
  rw [Finset.sdiff_empty, duties_at]
  show bigSep {false} _ = _
  rw [bigSep_singleton, payload_at]

end Tables

/-! ## What a device owes, and the order of the waits -/

/-- The arrivals of the hops from `n` on, which `c` owes the device to the right. -/
def landOwed (c : Dev nD) (n : ℕ) : CellTallies nD τ sig Unit :=
  ∑ h ∈ Finset.univ.filter (fun h : Fin 31 => n ≤ h.val), tallyAt (cell (nxt c) (landC h)) () N
def O₁ (c : Dev nD) : CellTallies nD τ sig Unit := landOwed c 0 + tallyAt (cell (nxt c) meetC) () 1
/-- At launch `c` owes those arrivals and a unit to both neighbours' meeting cells. -/
def O₀ (c : Dev nD) : CellTallies nD τ sig Unit := O₁ c + tallyAt (cell (prv c) meetC) () 1

theorem landOwed_succ (c : Dev nD) (h : Fin 31) :
    landOwed c h.val = landOwed c (h.val + 1) + tallyAt (cell (nxt c) (landC h)) () N := by
  unfold landOwed
  rw [show Finset.univ.filter (fun x : Fin 31 => h.val ≤ x.val) = insert h (Finset.univ.filter fun x : Fin 31 => h.val + 1 ≤ x.val) from by
    ext x; simp only [Finset.mem_filter, Finset.mem_univ, true_and, Finset.mem_insert, Fin.ext_iff]; omega]
  rw [Finset.sum_insert (by simp), add_comm]
theorem landOwed_last (c : Dev nD) : landOwed c 31 = 0 := by
  unfold landOwed
  rw [Finset.filter_false_of_mem (fun x _ => by have := x.isLt; omega), Finset.sum_empty]

theorem landOwed_apply (c : Dev nD) (n : ℕ) (g : GSem nD τ sig) (u : Unit) :
    landOwed c n g u = ∑ h ∈ Finset.univ.filter (fun h : Fin 31 => n ≤ h.val), if g = cell (nxt c) (landC h) ∧ u = () then N else 0 := by
  unfold landOwed
  rw [Finset.sum_apply, Finsupp.finset_sum_apply]
  exact Finset.sum_congr rfl fun h _ => tallyAt_apply _ _ _ _ _

theorem landOwed_pos {c : Dev nD} {n : ℕ} {g : GSem nD τ sig} {u : Unit} (hp : 0 < landOwed c n g u) :
    ∃ h : Fin 31, n ≤ h.val ∧ g = cell (nxt c) (landC h) := by
  rw [landOwed_apply] at hp
  obtain ⟨h, hm, hh⟩ := Finset.exists_ne_zero_of_sum_ne_zero (Nat.pos_iff_ne_zero.mp hp)
  refine ⟨h, (Finset.mem_filter.mp hm).2, ?_⟩
  by_contra hn
  exact hh (if_neg fun w => hn w.1)

/-- Staging and departures lowest, then the meeting, then the arrivals in the order of the hops. -/
abbrev levOf : Cell → ℕ
  | .inl _ => 1
  | .inr (.inl _) => 0
  | .inr (.inr h) => 2 + h.val
def L (g : GSem nD τ sig) : Finset Unit := if g.1.2 = .tc then {()} else ∅
def lv (g : GSem nD τ sig) (_ : Unit) : ℕ := (role g.2).elim 0 levOf

theorem L_of_ne (g : GSem nD τ sig) (h : g.1.2 ≠ .tc) : L g = ∅ := if_neg h
theorem L_tc (c : Dev nD) (sm : SemLoc sig) : L ((c : Thread nD τ), sm) = {()} := if_pos rfl
theorem lv_at (c : Dev nD) (k : Cell) : lv (cell c k) () = levOf k := by
  show (role (csem k)).elim 0 levOf = _; rw [role_csem]; rfl

theorem O₀_apply (c : Dev nD) (g : GSem nD τ sig) : O₀ c g ()
    = landOwed c 0 g () + (if g = cell (nxt c) meetC then 1 else 0) + (if g = cell (prv c) meetC then 1 else 0) := by
  unfold O₀ O₁
  rw [Pi.add_apply, Finsupp.add_apply, Pi.add_apply, Finsupp.add_apply, tallyAt_apply, tallyAt_apply]
  simp only [and_true]

theorem pos_of_ite {p : Prop} [Decidable p] (h : 0 < (if p then 1 else 0)) : p := by
  by_contra hn; rw [if_neg hn] at h; exact Nat.lt_irrefl 0 h

theorem O₀_pos {c : Dev nD} {g : GSem nD τ sig} {u : Unit} (hp : 0 < O₀ c g u) : ∃ d k, g = cell d k ∧ 0 < levOf k := by
  cases u
  rw [O₀_apply] at hp
  rcases Nat.add_pos_iff_pos_or_pos.mp hp with h | h
  · rcases Nat.add_pos_iff_pos_or_pos.mp h with h | h
    · obtain ⟨h, -, e⟩ := landOwed_pos h
      exact ⟨nxt c, landC h, e, Nat.lt_of_lt_of_le Nat.two_pos (Nat.le_add_right 2 h.val)⟩
    · exact ⟨nxt c, meetC, pos_of_ite h, Nat.one_pos⟩
  · exact ⟨prv c, meetC, pos_of_ite h, Nat.one_pos⟩

omit [FloatOps F] in
/-- A wait at level at most `b` is allowed while everything owed lies above `b`. -/
theorem mayWait_below (c : Dev nD) (sm : SemLoc sig) (b : ℕ) (O : CellTallies nD τ sig Unit) (hs : lv ((c : Thread nD τ), sm) () ≤ b)
    (hO : ∀ g u, 0 < O g u → ∃ d k, g = cell d k ∧ b < levOf k) : (levAts L lv : sProp 𝕄) ⊢ MayWait (c : Thread nD τ) sm () O :=
  MayOwe.of_cut (L := L) (lev := lv) b (fun p hp => by rw [Finset.mem_singleton.mp hp, L_tc]; exact Finset.mem_singleton_self _)
    (fun g u hg => by obtain ⟨d, k, rfl, -⟩ := hO g u hg; exact Finset.mem_singleton_self _)
    (fun p hp => by rw [Finset.mem_singleton.mp hp]; exact hs)
    (fun g u hg => by obtain ⟨d, k, rfl, h⟩ := hO g u hg; show b < lv (cell d k) (); rw [lv_at]; exact h)

omit [FloatOps F] in
theorem mayWait_land (c : Dev nD) (sm : SemLoc sig) (n : ℕ) (hs : lv ((c : Thread nD τ), sm) () ≤ 1 + n) :
    (levAts L lv : sProp 𝕄) ⊢ MayWait (c : Thread nD τ) sm () (landOwed c n) :=
  mayWait_below c sm (1 + n) _ hs fun g u hg => by
    obtain ⟨h, hn, e⟩ := landOwed_pos hg
    exact ⟨_, _, e, by show 1 + n < 2 + h.val; omega⟩

/-! ## The records every device reads -/

/-- Every cell of every device is under the schedule, and stands at its first round. -/
def records (K : Dev nD × Cell → ℕ) : sProp 𝕄 :=
  iprop((bigSep Finset.univ fun ck : Dev nD × Cell => cellInv ER (sched m ρ) (K ck) (cell ck.1 ck.2))
    ∗ bigSep Finset.univ fun ck : Dev nD × Cell => reached ER (cell ck.1 ck.2) 0)

instance records_persistent (K : Dev nD × Cell → ℕ) : BI.Persistent (records m ρ K) := by unfold records; infer_instance

omit [FloatOps F] in
theorem records_inv (K : Dev nD × Cell → ℕ) (c : Dev nD) (k : Cell) : records m ρ K ⊢ cellInv ER (sched m ρ) (K (c, k)) (cell c k) :=
  sep_elim_left.trans (bigSep_elim (Φ := fun ck : Dev nD × Cell => cellInv ER (sched m ρ) (K ck) (cell ck.1 ck.2)) (Finset.mem_univ (c, k)))
omit [FloatOps F] in
theorem records_reached (K : Dev nD × Cell → ℕ) (c : Dev nD) (k : Cell) : records m ρ K ⊢ reached ER (cell c k) 0 :=
  sep_elim_right.trans (bigSep_elim (Φ := fun ck : Dev nD × Cell => reached ER (cell ck.1 ck.2) 0) (Finset.mem_univ (c, k)))

end Cert.GatherMul

end
-- ==== Proof.Hops.lean ====
/-
  The hops. A rule for a program run once for each number below `N`, and the thirty-one copies around the ring by it: a device
  sends the slot it has, gets the slot back when it has left, and gets the next one filled when its left neighbour's copy has
  landed; both of the hop's cells close at once.
-/
module

public import proofs.«01_k».proof.Proof.Proto

@[expose] public section

set_option maxRecDepth 16384

noncomputable section

namespace Cert.GatherMul

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

/-- What holds when device `c`'s program `p` has run. -/
abbrev run {α : Type} (c : Dev nD) (p : Prog (TpuEff nD τ sig (Elt F) Λ₀ .tc) α) (Q : α → sProp 𝕄) : sProp 𝕄 :=
  wp frame (wpE (defs₀ (F := F)) 𝒱₀ (c : Thread nD τ) none) Set.univ p Q

omit [FloatOps F] in
theorem bigSep_first {N : ℕ} (Φ : Fin (N + 1) → sProp 𝕄) :
    bigSep Finset.univ Φ = iprop(Φ 0 ∗ bigSep Finset.univ fun k : Fin N => Φ k.succ) := by
  rw [Fin.univ_succ, Finset.cons_eq_insert, bigSep_insert (by simp [Fin.succ_ne_zero]), bigSep_map]
  rfl
omit [FloatOps F] in
theorem bigSep_last {N : ℕ} (Φ : Fin (N + 1) → sProp 𝕄) :
    bigSep Finset.univ Φ = iprop(Φ (Fin.last N) ∗ bigSep Finset.univ fun k : Fin N => Φ k.castSucc) := by
  rw [Fin.univ_castSuccEmb, Finset.cons_eq_insert, bigSep_insert (by simp [Fin.castSucc_ne_last]), bigSep_map]
  rfl

/-- A program run for each number below `N`: a state `S` is carried along, each run consumes its own `A` and leaves its own
    `B`, and all of them may read `R`. -/
theorem run_each (c : Dev nD) (R : sProp 𝕄) [BI.Persistent R] : ∀ (N : ℕ) (p : Fin N → Prog (TpuEff nD τ sig (Elt F) Λ₀ .tc) PUnit)
    (S : Fin (N + 1) → sProp 𝕄) (A B : Fin N → sProp 𝕄),
    (∀ k, iprop(R ∗ S k.castSucc ∗ A k) ⊢ run c (p k) fun _ => iprop(S k.succ ∗ B k)) →
    iprop(R ∗ S 0 ∗ bigSep Finset.univ A) ⊢ run c (each N p) fun _ => iprop(S (Fin.last N) ∗ bigSep Finset.univ B)
  | 0, p, S, A, B, _ => by
    have h : iprop(R ∗ S 0 ∗ bigSep Finset.univ A) ⊢ iprop(S 0 ∗ bigSep Finset.univ B) := by
      rw [Finset.univ_eq_empty, bigSep_empty, bigSep_empty]
      iintro ⟨-, HS, HA⟩
      isplitl [HS] <;> iassumption
    exact h.trans (le_wp_ret frame (wpE (defs₀ (F := F)) 𝒱₀ (c : Thread nD τ) none) Set.univ PUnit.unit
      fun _ => iprop(S (Fin.last 0) ∗ bigSep Finset.univ B))
  | N + 1, p, S, A, B, hp => by
    have h0 : iprop(R ∗ S 0 ∗ A 0) ⊢ run c (p 0) fun _ => iprop(S (Fin.succ 0) ∗ B 0) := hp 0
    have hs : iprop(R ∗ S (Fin.succ 0) ∗ bigSep Finset.univ fun k : Fin N => A k.succ)
        ⊢ run c (each N fun k => p k.succ) fun _ => iprop(S (Fin.last (N + 1)) ∗ bigSep Finset.univ fun k : Fin N => B k.succ) :=
      run_each c R N (fun k => p k.succ) (fun k => S k.succ) (fun k => A k.succ) (fun k => B k.succ) fun k => hp k.succ
    show _ ⊢ run c (p 0 >>= fun _ => each N fun k => p k.succ) _
    unfold run
    rw [wp_bind, bigSep_first A, bigSep_first B]
    iintro ⟨#HR, HS, HA, HAs⟩
    iapply (wp_wand_r frame (wpE (defs₀ (F := F)) 𝒱₀ (c : Thread nD τ) none) Set.univ)
    isplitl [HS HA]
    · iapply h0
      isplitr; · iexact HR
      isplitl [HS] <;> iassumption
    iintro %_ ⟨HS, HB⟩
    iapply (wp_wand_r frame (wpE (defs₀ (F := F)) 𝒱₀ (c : Thread nD τ) none) Set.univ)
    isplitl [HS HAs]
    · iapply hs
      isplitr; · iexact HR
      isplitl [HS] <;> iassumption
    iintro %_ ⟨HS, HBs⟩
    isplitl [HS]; · iexact HS
    isplitl [HB] <;> iassumption

variable (m : (ℓ : Loc nD τ sig) → Buf (Elt F) ℓ) (ρ : Dev nD → PrngReg) (K : Dev nD × Cell → ℕ)

/-- What every device reads throughout. -/
def known : sProp 𝕄 := iprop(records m ρ K ∗ levAts L lv)
instance known_persistent : BI.Persistent (known m ρ K) := by unfold known; infer_instance

/-- Before hop `s`, and after the last: the arrivals still owed, and the slot the device has. -/
def hopAt (c : Dev nD) (s : Fin 32) : sProp 𝕄 :=
  iprop((∃ W, owes (c : Thread nD τ) (landOwed c s.val) W) ∗ slotPts c s (gath m ρ c))
/-- What hop `h` consumes: the device's places at the two cells, the duties it pays, the credit of the arrival, and the right
    neighbour's slot. -/
def hopIn (c : Dev nD) (h : Fin 31) : sProp 𝕄 :=
  iprop(atPos ER (cell c (leaveC h)) 0 ∅ 0 ∗ atPos ER (cell c (landC h)) 0 ∅ 0
    ∗ dutyTok ER (cell c (leaveC h)) 0 false ∗ dutyTok ER (cell (nxt c) (landC h)) 0 false
    ∗ cred (tallyAt (cell c (landC h)) () N) ∗ ∃ f, slotPts (nxt c) (dst h) f)
/-- What it leaves: the slot it sent, and its two semaphores at zero. -/
def hopOut (c : Dev nD) (h : Fin 31) : sProp 𝕄 :=
  iprop(slotPts c (src h) (gath m ρ c) ∗ semVal (cell c (leaveC h)) 0 ∗ semVal (cell c (landC h)) 0)

/-- Starting hop `h`'s copy, addressed to a device `n` known to be the one to the right. -/
theorem wp_start (c n : Dev nD) (hn : n = nxt c) (h : Fin 31) {hsc : (slotM (dst h) : Memref sig (Dev.tc n : Thread nD τ).2.kind .vmem S128x4096 .fp8e4m3).view.ref.isScScratch = false}
    {hsrc : (slotM (src h)).view.WordExact} {hdst : (slotM (dst h)).view.WordExact}
    {hsem : DmaTarget.Typed .vmem (.dma (recvS h).sem) (.remote (Dev.tc n : Thread nD τ) (slotM (dst h)) (.dma (sendS h).sem) hsc)}
    {α : Type} {Q : α → sProp 𝕄} {k : PUnit → Prog (TpuEff nD τ sig (Elt F) Λ₀ .tc) α}
    (f : Buf (Elt F) ((nxt c : Thread nD τ).loc cc0_scratch0)) (W : Waits sig Unit) :
    iprop(cellInv ER (sched m ρ) (K (c, leaveC h)) (cell c (leaveC h)) ∗ cellInv ER (sched m ρ) (K (nxt c, landC h)) (cell (nxt c) (landC h))
        ∗ slotPts c (src h) (gath m ρ c) ∗ slotPts (nxt c) (dst h) f ∗ owes (c : Thread nD τ) (landOwed c h.val) W
        ∗ dutyTok ER (cell c (leaveC h)) 0 false ∗ reached ER (cell c (leaveC h)) 0
        ∗ dutyTok ER (cell (nxt c) (landC h)) 0 false ∗ reached ER (cell (nxt c) (landC h)) 0)
      ⊢ iprop(((cred (tallyAt (cell c (leaveC h)) () N) ∗ owes (c : Thread nD τ) (landOwed c (h.val + 1)) W) -∗ run c (k ⟨⟩) Q)
          -∗ run c (.op (.enqueueDma (slotM (src h)) (.remote (Dev.tc n : Thread nD τ) (slotM (dst h)) (.dma (sendS h).sem) hsc) (.dma (recvS h).sem) hsrc hdst hsem) k) Q) := by
  subst hn
  have hN : (slotM (dst h) : Memref sig .tc .vmem S128x4096 .fp8e4m3).view.amount (.dma (recvS h).sem) = N := rfl
  have hleft : slotPts c (src h) (gath m ρ c) ⊢ (sched m ρ).payload (cell c (leaveC h)) 0 false :=
    Entails.of_eq (payload_at m ρ c (leaveC h) 0 false).symm
  have hland := (slotPts_landed m ρ c h f).trans
    (show slotPts (nxt c) (dst h) (gath m ρ (nxt c)) ⊢ (sched m ρ).payload (cell (nxt c) (landC h)) 0 false from
      Entails.of_eq (payload_at m ρ (nxt c) (landC h) 0 false).symm)
  unfold slotPts at hleft
  unfold slotPts run
  have := Rounds.wp_send_pointsTo 𝒱₀ ER (sched m ρ) (c : Thread nD τ) none (κ₁ := K (c, leaveC h)) (κ₂ := K (nxt c, landC h)) (Q := Q) (k := k) (hsc := hsc) (hsrc := hsrc) (hdst := hdst) (hsem := hsem) (defs := defs₀ (F := F)) (Es := Set.univ) (Γ := .empty)
    (r₁ := 0) (r₂ := 0) (d₁ := false) (d₂ := false) (fs := gath m ρ c) (fd := f)
    (mem_duties_hop m ρ c (.inl h)) (mem_duties_hop m ρ (nxt c) (.inr h))
    () () N hN (amount_at m ρ c (leaveC h) 0 false) (amount_at m ρ (nxt c) (landC h) 0 false)
    (landOwed c (h.val + 1)) (landOwed_succ c h) (W := W) hleft hland
  exact this

theorem run_hop (c : Dev nD) (h : Fin 31) :
    iprop(known m ρ K ∗ hopAt m ρ c h.castSucc ∗ hopIn c h) ⊢ run c (hop c h) fun _ => iprop(hopAt m ρ c h.succ ∗ hopOut m ρ c h) := by
  unfold hop run
  simp only [Prog.lift, Prog.bind_op, Prog.bind_ret, Prog.pure_eq_ret]
  unfold known hopAt hopIn
  iintro ⟨⟨#HR, #Hlev⟩, ⟨⟨%W, HO⟩, Hsrc⟩, HaS, HaV, HtS, HtV, HcV, ⟨%f, Hdst⟩⟩
  ihave #HIs := (records_inv m ρ K c (leaveC h)) $$ HR
  ihave #HIv := (records_inv m ρ K c (landC h)) $$ HR
  ihave #HIn := (records_inv m ρ K (nxt c) (landC h)) $$ HR
  ihave #Hrs := (records_reached m ρ K c (leaveC h)) $$ HR
  ihave #Hrn := (records_reached m ρ K (nxt c) (landC h)) $$ HR
  iapply (wp_start m ρ K c _ (dev3_nxt c) h f W) $$ [Hsrc Hdst HO HtS HtV]
  · isplitr; · iexact HIs
    isplitr; · iexact HIn
    isplitl [Hsrc]; · iexact Hsrc
    isplitl [Hdst]; · iexact Hdst
    isplitl [HO]; · iexact HO
    isplitl [HtS]; · iexact HtS
    isplitr; · iexact Hrs
    isplitl [HtV]; · iexact HtV
    iexact Hrn
  iintro ⟨HcS, HO⟩
  iapply (Rounds.wp_wait_rest_token 𝒱₀ ER (sched m ρ) (c : Thread nD τ) none (κ := K (c, leaveC h)) (sm := csem (leaveC h))
      (wpE_waitDma2_eq 𝒱₀ (c : Thread nD τ) none Set.univ) (Set.mem_univ _) () (O := landOwed c (h.val + 1)) (R := 0) (m := 0) (T := ∅)
      (by rw [Nat.zero_add]; exact (expect_hop m ρ c (.inl h)).symm)) $$ [HcS HO HaS]
  · isplitr; · iexact HIs
    isplitl [HcS]; · iexact HcS
    isplitl [HO]; · iexact HO
    isplitr
    · iapply (mayWait_land c _ (h.val + 1) (by rw [lv_at c (leaveC h)]; exact Nat.zero_le _)); iexact Hlev
    iexact HaS
  iintro ⟨HO, HaS, -, Hpay⟩
  ihave Hsrc := (Entails.of_eq (rest_hop m ρ c (.inl h))) $$ Hpay
  iapply (Rounds.wp_wait_rest_token 𝒱₀ ER (sched m ρ) (c : Thread nD τ) none (κ := K (c, landC h)) (sm := csem (landC h))
      (wpE_waitDma2_eq 𝒱₀ (c : Thread nD τ) none Set.univ) (Set.mem_univ _) () (O := landOwed c (h.val + 1)) (R := 0) (m := 0) (T := ∅)
      (by rw [Nat.zero_add]; exact (expect_hop m ρ c (.inr h)).symm)) $$ [HcV HO HaV]
  · isplitr; · iexact HIv
    isplitl [HcV]; · iexact HcV
    isplitl [HO]; · iexact HO
    isplitr
    · iapply (mayWait_land c _ (h.val + 1) (by rw [lv_at c (landC h)]; show 2 + h.val ≤ 1 + (h.val + 1); omega)); iexact Hlev
    iexact HaV
  iintro ⟨HO, HaV, -, Hpay⟩
  ihave Hdst := (Entails.of_eq (rest_hop m ρ c (.inr h))) $$ Hpay
  imod (Rounds.cell_close ER (sched m ρ) (Set.mem_univ (K (c, leaveC h))) (fun w => w) (R := 0 + 1) (duties_later m ρ (cell c (leaveC h)))) $$ [HaS] with HzS
  · isplitr; · iexact HIs
    iexact HaS
  imod (Rounds.cell_close ER (sched m ρ) (Set.mem_univ (K (c, landC h))) (fun w => w) (R := 0 + 1) (duties_later m ρ (cell c (landC h)))) $$ [HaV] with HzV
  · isplitr; · iexact HIv
    iexact HaV
  rw [wp_ret]; imodintro
  unfold hopOut
  isplitl [HO Hdst]
  · isplitl [HO]
    · iexists _; iexact HO
    iexact Hdst
  isplitl [Hsrc]; · iexact Hsrc
  isplitl [HzS] <;> iassumption

/-- All the hops. -/
theorem run_hops (c : Dev nD) :
    iprop(known m ρ K ∗ hopAt m ρ c 0 ∗ bigSep Finset.univ (hopIn (F := F) c))
      ⊢ run c (each 31 (hop c)) fun _ => iprop(hopAt m ρ c (Fin.last 31) ∗ bigSep Finset.univ (hopOut m ρ c)) :=
  run_each c (known m ρ K) 31 (hop c) (hopAt m ρ c) (hopIn c) (hopOut m ρ c) (run_hop m ρ K c)

end Cert.GatherMul

end
-- ==== Proof.Steps.lean ====
/-
  The steps, and the opening. The result's block of rows for the device `s` places to the left is written at step `s`; after
  the last step every row is. The opening meets both neighbours, stages the device's own block in slot 0 and its weights.
-/
module

public import proofs.«01_k».proof.Proof.Hops

@[expose] public section

set_option maxRecDepth 16384

noncomputable section

namespace Cert.GatherMul

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg) (K : Dev nD × Cell → ℕ)

/-! ## The values -/

/-- Device `c`'s block of the weights, and the two scales, staged. -/
def wstg (c : Dev nD) : (cc0_stg1_0 : Ref sig .tc).ty.Contents (Elt F) :=
  (win0_1.blk (0 : Fin 1)).view.read (Elt F) ((s₀ m ρ).mem ((c : Thread nD τ).loc main_arg1))
def astg (c : Dev nD) : (cc0_stg2_0 : Ref sig .tc).ty.Contents (Elt F) :=
  (win0_2.blk (0 : Fin 1)).view.read (Elt F) ((s₀ m ρ).mem ((c : Thread nD τ).loc main_arg2))
def bstg (c : Dev nD) : (cc0_stg3_0 : Ref sig .tc).ty.Contents (Elt F) :=
  (win0_3.blk (0 : Fin 1)).view.read (Elt F) ((s₀ m ρ).mem ((c : Thread nD τ).loc main_arg3))

/-- The weights widened; -/
def wide (c : Dev nD) : (cc0_scratch1 : Ref sig .tc).ty.Contents (Elt F) := k0_pay3 (wstg m ρ c)
set_option backward.proofsInPublic true in
/-- the one index of a vector of one element; -/
def only : S1.Idx := fun a => ⟨0, by fin_cases a; exact Nat.one_pos⟩
/-- and the product of the scales. -/
def scale (c : Dev nD) : F .f32 := k0_pay4 (astg m ρ c only) (bstg m ρ c only)

/-- Slot `s` as a step loads it. -/
def slotOf (c : Dev nD) (s : Fin 32) : Vec F S1x128x4096 .fp8e4m3 := fun y => gath m ρ c ((slotR s).emb y)

set_option backward.proofsInPublic true in
/-- The step that writes row `i 0`; -/
def stepOf (c : Dev nD) (i : S4096x256.Idx) : Fin 32 := ⟨(c.val + 32 - (i 0).val / 128) % 32, Nat.mod_lt _ (by decide)⟩
set_option backward.proofsInPublic true in
/-- and the place of index `i` in the block written then. -/
def inBlock (i : S4096x256.Idx) : S128x256.Idx := Shape.pair ⟨(i 0).val % 128, Nat.mod_lt _ (by decide)⟩ (i 1)

/-- Device `c`'s result. -/
def outAt (c : Dev nD) : (cc0_stg4_0 : Ref sig .tc).ty.Contents (Elt F) :=
  fun i : S4096x256.Idx => k0_pay1 (scale m ρ c) (slotOf m ρ c (stepOf c i)) (wide m ρ c) (inBlock i)

/-! ## The steps -/

omit [FloatOps F] in
theorem zz : (![0, 0] : Fin 2 → Nat) = fun _ => 0 := funext fun a => by fin_cases a <;> rfl

/-- The place in the result of index `y` of the block of step `s`. -/
theorem outR_emb (c : Dev nD) (s : Fin 32) (y : S128x256.Idx) :
    (((outR c s).emb y) 0).val = 128 * ((c.val + 32 - s.val) % 32) + (y 0).val ∧ (((outR c s).emb y) 1).val = (y 1).val := by
  have e := k0_off1_eq c s
  refine ⟨?_, ?_⟩
  · show k0_off1 c (BitVec.ofNat 32 s.val) 0 + 1 * (y 0).val = _
    rw [e]; show 128 * ((c.val + 32 - s.val) % 32) + 1 * (y 0).val = _; omega
  · show k0_off1 c (BitVec.ofNat 32 s.val) 1 + 1 * (y 1).val = _
    rw [e]; show 0 + 1 * (y 1).val = _; omega

theorem stepOf_emb (c : Dev nD) (s : Fin 32) (y : S128x256.Idx) : stepOf c ((outR c s).emb y) = s := by
  apply Fin.ext
  have h := (outR_emb c s y).1
  have hy : (y 0).val < 128 := (y 0).isLt
  have hc : c.val < 32 := c.isLt
  have hs := s.isLt
  show (c.val + 32 - (((outR c s).emb y) 0).val / 128) % 32 = s.val
  rw [h]; omega

theorem emb_inBlock (c : Dev nD) (i : S4096x256.Idx) : (outR c (stepOf c i)).emb (inBlock i) = i := by
  have h := outR_emb c (stepOf c i) (inBlock i)
  have hi : (i 0).val < 4096 := (i 0).isLt
  have hc : c.val < 32 := c.isLt
  funext a; apply Fin.ext
  fin_cases a
  · refine h.1.trans ?_
    show 128 * ((c.val + 32 - (c.val + 32 - (i 0).val / 128) % 32) % 32) + (i 0).val % 128 = (i 0).val
    omega
  · exact h.2

/-- Storing the block of step `s` makes the rows of that step right and leaves the others. -/
theorem write_step (c : Dev nD) (s : Fin 32) (f : (cc0_stg4_0 : Ref sig .tc).ty.Contents (Elt F))
    (hf : ∀ i : S4096x256.Idx, (stepOf c i).val < s.val → f i = outAt m ρ c i) (i : S4096x256.Idx) (hi : (stepOf c i).val < s.val + 1) :
    ((oM.access (outR c s) : View sig .tc _ _ _).write (Elt F) f (k0_pay1 (scale m ρ c) (slotOf m ρ c s) (wide m ρ c)) Finset.univ) i = outAt m ρ c i := by
  by_cases h : stepOf c i = s
  · subst h
    have e := View.write_emb_of_mem (Val := Elt F) (v := (oM.access (outR c (stepOf c i)) : View sig .tc _ _ _)) f
      (k0_pay1 (scale m ρ c) (slotOf m ρ c (stepOf c i)) (wide m ρ c)) (Finset.mem_univ (inBlock i))
    rw [show (oM.access (outR c (stepOf c i)) : View sig .tc _ _ _).emb (inBlock i) = i from emb_inBlock c i] at e
    exact e
  · have hlt : (stepOf c i).val < s.val := by
      have : (stepOf c i).val ≠ s.val := fun w => h (Fin.ext w)
      omega
    rw [View.write_of_not_mem, hf i hlt]
    intro hm
    obtain ⟨y, -, hy⟩ := Finset.mem_map.mp hm
    exact h (by rw [← hy]; exact stepOf_emb c s y)

/-- Before step `n`: the gathered blocks, the weights, and a result right in the rows of the steps before. -/
def stepAt (c : Dev nD) (n : Fin 33) : sProp 𝕄 :=
  iprop((((c : Thread nD τ).loc cc0_scratch0) ↦{fullShare} gath m ρ c) ∗ (((c : Thread nD τ).loc cc0_scratch1) ↦{fullShare} wide m ρ c)
    ∗ ∃ f : Buf (Elt F) ((c : Thread nD τ).loc cc0_stg4_0), ⌜∀ i : S4096x256.Idx, (stepOf c i).val < n.val → f i = outAt m ρ c i⌝
        ∗ (((c : Thread nD τ).loc cc0_stg4_0) ↦{fullShare} f))

omit [FloatOps F] in
theorem read_wide (f : (cc0_scratch1 : Ref sig .tc).ty.Contents (Elt F)) : (uM : Memref sig .tc .vmem S4096x256 .bf16).view.readAt (Elt F) allR.toLoadRect f = f :=
  Memref.readAt_unit_zero (Elt F) cc0_scratch1 zz _ f

theorem run_step (c : Dev nD) (s : Fin 32) :
    iprop(emp ∗ stepAt m ρ c s.castSucc ∗ emp) ⊢ run c (step c (scale m ρ c) s) fun _ => iprop(stepAt m ρ c s.succ ∗ emp) := by
  unfold step run
  simp only [Prog.lift, Prog.bind_op, Prog.bind_ret, Prog.pure_eq_ret]
  unfold stepAt
  iintro ⟨-, ⟨HG, HU, ⟨%f, %hf, HF⟩⟩, -⟩
  iapply (wp_load 𝒱₀ (c : Thread nD τ) none Set.univ (m := gM) (Finset.subset_univ _)) $$ HG; iintro HG
  iapply (wp_load 𝒱₀ (c : Thread nD τ) none Set.univ (m := uM) (Finset.subset_univ _)) $$ HU; iintro HU
  rw [read_wide]
  iapply (wp_load 𝒱₀ (c : Thread nD τ) none Set.univ (m := oM) (Finset.subset_univ _)) $$ HF; iintro HF
  iapply (wp_store 𝒱₀ (c : Thread nD τ) none Set.univ (m := oM) (r := outR c s) (Mk := Finset.univ) (Finset.subset_univ _)) $$ HF; iintro HF
  rw [wp_ret]; imodintro
  isplitl
  · isplitl [HG]; · iexact HG
    isplitl [HU]; · iexact HU
    iexists _
    isplitr; rotate_left
    · iexact HF
    · ipureintro; exact write_step m ρ c s f hf
  · iempintro

omit [FloatOps F] in
theorem bigSep_emps {N : ℕ} : (bigSep Finset.univ fun _ : Fin N => (iprop(emp) : sProp 𝕄)) = iprop(emp) := bigSep_emp_const _

/-- All the steps: the result is whole. -/
theorem run_steps (c : Dev nD) (f : Buf (Elt F) ((c : Thread nD τ).loc cc0_stg4_0)) :
    iprop((((c : Thread nD τ).loc cc0_scratch0) ↦{fullShare} gath m ρ c) ∗ (((c : Thread nD τ).loc cc0_scratch1) ↦{fullShare} wide m ρ c)
        ∗ (((c : Thread nD τ).loc cc0_stg4_0) ↦{fullShare} f))
      ⊢ run c (each 32 (step c (scale m ρ c))) fun _ =>
        iprop((((c : Thread nD τ).loc cc0_scratch0) ↦{fullShare} gath m ρ c) ∗ (((c : Thread nD τ).loc cc0_scratch1) ↦{fullShare} wide m ρ c)
          ∗ (((c : Thread nD τ).loc cc0_stg4_0) ↦{fullShare} outAt m ρ c)) := by
  have h := run_each c iprop(emp) 32 (step c (scale m ρ c)) (stepAt m ρ c) (fun _ => iprop(emp)) (fun _ => iprop(emp)) (run_step m ρ c)
  rw [bigSep_emps] at h
  have hin : iprop((((c : Thread nD τ).loc cc0_scratch0) ↦{fullShare} gath m ρ c) ∗ (((c : Thread nD τ).loc cc0_scratch1) ↦{fullShare} wide m ρ c)
        ∗ (((c : Thread nD τ).loc cc0_stg4_0) ↦{fullShare} f)) ⊢ iprop(emp ∗ stepAt m ρ c 0 ∗ emp) := by
    unfold stepAt
    iintro ⟨HG, HU, HF⟩
    isplitr; · iempintro
    isplitl; rotate_left
    · iempintro
    isplitl [HG]; · iexact HG
    isplitl [HU]; · iexact HU
    iexists f
    isplitr; · ipureintro; exact fun i hi => absurd hi (Nat.not_lt_zero _)
    iexact HF
  have hout : iprop(stepAt m ρ c (Fin.last 32) ∗ emp)
      ⊢ iprop((((c : Thread nD τ).loc cc0_scratch0) ↦{fullShare} gath m ρ c) ∗ (((c : Thread nD τ).loc cc0_scratch1) ↦{fullShare} wide m ρ c)
          ∗ (((c : Thread nD τ).loc cc0_stg4_0) ↦{fullShare} outAt m ρ c)) := by
    unfold stepAt
    iintro ⟨⟨HG, HU, ⟨%g, %hg, HF⟩⟩, -⟩
    have e : g = outAt m ρ c := funext fun i : S4096x256.Idx => hg i (Nat.lt_of_lt_of_le (stepOf c i).isLt (Nat.le_refl 32))
    subst e
    isplitl [HG]; · iexact HG
    isplitl [HU] <;> iassumption
  exact hin.trans (h.trans (wp_mono frame (wpE (defs₀ (F := F)) 𝒱₀ (c : Thread nD τ) none) Set.univ fun _ => hout))

end Cert.GatherMul

end
-- ==== Proof.Opening.lean ====
/-
  The opening: the device meets both neighbours (to the left it hands its slots after the first, from the right it receives that
  device's), copies its own block into slot 0 and its weights, widened, beside it, and multiplies the two scales.
-/
module

public import proofs.«01_k».proof.Proof.Steps
public import Idealize.ShloMosaic.Lib.Pipeline.Value

@[expose] public section

set_option maxRecDepth 16384

noncomputable section

namespace Cert.GatherMul

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg) (K : Dev nD × Cell → ℕ)

/-! ## The gather buffer and its slots -/

theorem slot_set (s : Fin 32) : (slotM s).view.set = (slotR s).set :=
  (View.set_reshape _ _).trans (View.set_slice_whole _ _)

/-- An index lies in the slot its first coordinate names. -/
theorem mem_slot (s : Fin 32) (i : S32x128x4096.Idx) : i ∈ (slotR s).set ↔ i 0 = s := by
  rw [Rect.mem_set_unit]
  refine ⟨fun h => Fin.ext ?_, fun h a => ?_⟩
  · have h0 := h 0
    change s.val ≤ (i 0).val ∧ (i 0).val < s.val + 1 at h0
    omega
  · subst h
    have h1 : (i 1).val < 128 := (i 1).isLt
    have h2 : (i 2).val < 4096 := (i 2).isLt
    fin_cases a
    · show (i 0).val ≤ (i 0).val ∧ (i 0).val < (i 0).val + 1; omega
    · show 0 ≤ (i 1).val ∧ (i 1).val < 0 + 128; omega
    · show 0 ≤ (i 2).val ∧ (i 2).val < 0 + 4096; omega

omit [FloatOps F] in
/-- A device's gather buffer is its slots. -/
theorem slots_eq (c : Dev nD) (f : Buf (Elt F) ((c : Thread nD τ).loc cc0_scratch0)) :
    ((((c : Thread nD τ).loc cc0_scratch0) ↦{fullShare} f) : sProp 𝕄) = bigSep Finset.univ fun s : Fin 32 => slotPts c s f := by
  have hd : ∀ s ∈ (Finset.univ : Finset (Fin 32)), ∀ t ∈ (Finset.univ : Finset (Fin 32)), s ≠ t → Disjoint (slotM s).view.set (slotM t).view.set := by
    intro s _ t _ hst
    rw [slot_set, slot_set]
    exact Finset.disjoint_left.mpr fun i hs ht => hst (((mem_slot s i).mp hs).symm.trans ((mem_slot t i).mp ht))
  unfold slotPts
  refine Eq.trans (congrArg (fun S => (((c : Thread nD τ).loc cc0_scratch0) ↦[S]{fullShare} f : sProp 𝕄)) ?_)
    (pointsTo_biUnion (ℓ := (c : Thread nD τ).loc cc0_scratch0) (q := fullShare) (f := f) Finset.univ (fun s : Fin 32 => (slotM s).view.set) hd)
  refine (Finset.eq_univ_of_forall fun i => Finset.mem_biUnion.mpr ⟨(i : S32x128x4096.Idx) 0, Finset.mem_univ _, ?_⟩).symm
  exact (Finset.ext_iff.mp (slot_set ((i : S32x128x4096.Idx) 0)) i).mpr ((mem_slot ((i : S32x128x4096.Idx) 0) i).mpr rfl)

set_option backward.isDefEq.respectTransparency false in
/-- The device's own block, stored in slot 0, is what slot 0 is to hold. -/
theorem slot0_stored (c : Dev nD) (f : Buf (Elt F) ((c : Thread nD τ).loc cc0_scratch0)) :
    ((((gM.access (slotR 0)) : View sig .tc _ _ _).loc (c : Thread nD τ) ↦[(slotM 0).view.set]{fullShare}
        ((gM.access (slotR 0)) : View sig .tc _ _ _).write (Elt F) f (k0_pay2 (xstg m ρ c)) Finset.univ) : sProp 𝕄)
      ⊢ slotPts c 0 (gath m ρ c) := by
  unfold slotPts
  refine Entails.of_eq (pointsTo_congr fun i hi => ?_)
  rw [slot_set, ← View.set_slice_whole cc0_scratch0 (slotR 0), View.set, Finset.mem_map] at hi
  obtain ⟨y, -, rfl⟩ := hi
  have e := View.write_emb_of_mem (Val := Elt F) (v := ((gM.access (slotR 0)) : View sig .tc _ _ _)) f (k0_pay2 (xstg m ρ c)) (Finset.mem_univ y)
  refine Eq.trans e ?_
  have y0 : (y 0).val = 0 := by have := (y 0).isLt; change (y 0).val < 1 at this; omega
  have e1 : back c ((slotR 0).emb y 0) = c :=
    (congrArg (back c) (Fin.ext (by show 0 + 1 * (y 0).val = 0; omega) : (slotR 0).emb y 0 = (0 : Fin 32))).trans (back_zero c)
  show k0_pay2 (xstg m ρ c) y = xstg m ρ (back c ((slotR 0).emb y 0)) _
  rw [e1]
  unfold k0_pay2
  refine (shapeCast_addUnit_apply ![128, 4096] _ _ y).trans ?_
  rw [shapeCast_self]
  refine congrArg (xstg m ρ c) (funext fun a => Fin.ext ?_)
  fin_cases a
  · show (y 1).val = 0 + 1 * (y 1).val; omega
  · show (y 2).val = 0 + 1 * (y 2).val; omega

/-! ## The opening -/

/-- What hop `h` consumes besides the right neighbour's slot. -/
def hopBase (c : Dev nD) (h : Fin 31) : sProp 𝕄 :=
  iprop(atPos ER (cell c (leaveC h)) 0 ∅ 0 ∗ atPos ER (cell c (landC h)) 0 ∅ 0
    ∗ dutyTok ER (cell c (leaveC h)) 0 false ∗ dutyTok ER (cell (nxt c) (landC h)) 0 false
    ∗ cred (tallyAt (cell c (landC h)) () N))

/-- What the meeting consumes. -/
def meetIn (c : Dev nD) : sProp 𝕄 :=
  iprop(atPos ER (cell c meetC) 0 ∅ 0 ∗ dutyTok ER (cell (prv c) meetC) 0 true ∗ dutyTok ER (cell (nxt c) meetC) 0 false
    ∗ cred (tallyAt (cell c meetC) () 2))

/-- The operands, staged. -/
def staged (c : Dev nD) : sProp 𝕄 :=
  iprop((((c : Thread nD τ).loc cc0_stg0_0) ↦{fullShare} xstg m ρ c) ∗ (((c : Thread nD τ).loc cc0_stg1_0) ↦{fullShare} wstg m ρ c)
    ∗ (((c : Thread nD τ).loc cc0_stg2_0) ↦{fullShare} astg m ρ c) ∗ (((c : Thread nD τ).loc cc0_stg3_0) ↦{fullShare} bstg m ρ c))

omit [FloatOps F] in
theorem hopIns (c : Dev nD) : iprop(bigSep Finset.univ (hopBase (F := F) c) ∗ meetPay c) ⊢ bigSep Finset.univ (hopIn (F := F) c) := by
  have one (f) (h : Fin 31) : iprop(hopBase (F := F) c h ∗ slotPts (nxt c) (dst h) f) ⊢ hopIn c h := by
    unfold hopBase hopIn
    iintro ⟨⟨H1, H2, H3, H4, H5⟩, H6⟩
    isplitl [H1]; · iexact H1
    isplitl [H2]; · iexact H2
    isplitl [H3]; · iexact H3
    isplitl [H4]; · iexact H4
    isplitl [H5]; · iexact H5
    iexists f; iexact H6
  have all (f) : iprop(bigSep Finset.univ (hopBase (F := F) c) ∗ bigSep Finset.univ fun h : Fin 31 => slotPts (nxt c) (dst h) f)
      ⊢ bigSep Finset.univ (hopIn (F := F) c) := by
    rw [← bigSep_sep']; exact bigSep_mono fun h _ => one f h
  unfold meetPay
  iintro ⟨HB, ⟨%f, HS⟩⟩
  iapply (all f)
  isplitl [HB] <;> iassumption

omit [FloatOps F] in
theorem mem_duties_meet (c : Dev nD) (d : Bool) : d ∈ (sched (F := F) m ρ).duties (cell c meetC) 0 := by
  rw [duties_at m ρ c meetC]; exact Finset.mem_univ _

omit [FloatOps F] in
theorem read_x (f : (cc0_stg0_0 : Ref sig .tc).ty.Contents (Elt F)) : (xM : Memref sig .tc .vmem S128x4096 .fp8e4m3).view.readAt (Elt F) allX.toLoadRect f = f :=
  Memref.readAt_unit_zero (Elt F) cc0_stg0_0 zz _ f
omit [FloatOps F] in
theorem read_w (f : (cc0_stg1_0 : Ref sig .tc).ty.Contents (Elt F)) : (wM : Memref sig .tc .vmem S4096x256 .fp8e5m2).view.readAt (Elt F) allR.toLoadRect f = f :=
  Memref.readAt_unit_zero (Elt F) cc0_stg1_0 zz _ f
omit [FloatOps F] in
theorem write_u (f w : (cc0_scratch1 : Ref sig .tc).ty.Contents (Elt F)) :
    ((uM : Memref sig .tc .vmem S4096x256 .bf16).access allR : View sig .tc _ _ _).write (Elt F) f w Finset.univ = w :=
  Memref.write_access_unit_zero_univ (Elt F) cc0_scratch1 zz _ f w

theorem only_eq (i : S1.Idx) : i = only := funext fun a => by
  apply Fin.ext; fin_cases a
  have := (i 0).isLt; change (i 0).val < 1 at this; show (i 0).val = 0; omega

omit [FloatOps F] in
/-- What the signal to the left hands over; -/
theorem pay_slots (c : Dev nD) (f : Buf (Elt F) ((c : Thread nD τ).loc cc0_scratch0)) :
    (bigSep Finset.univ fun h : Fin 31 => slotPts c (dst h) f) ⊢ (sched m ρ).payload (cell (prv c) meetC) 0 true := by
  rw [payload_at m ρ (prv c) meetC 0 true]
  show _ ⊢ meetPay (prv c)
  unfold meetPay; rw [nxt_prv]
  iintro H; iexists f; iexact H
omit [FloatOps F] in
/-- and the signal to the right. -/
theorem pay_none (c : Dev nD) : iprop(emp) ⊢ (sched (F := F) m ρ).payload (cell c meetC) 0 false :=
  Entails.of_eq (payload_at m ρ c meetC 0 false).symm

abbrev r1 : Rect S1 := Rect.unit (s := S1) ![0] S1.size inb_S1_S1_0
omit [FloatOps F] in
theorem read_a (f : (cc0_stg2_0 : Ref sig .tc).ty.Contents (Elt F)) (x : S1.Idx) : (aM : Memref sig .tc .smem S1 .f32).view.readAt (Elt F) r1.toLoadRect f x = f only :=
  congrArg f (only_eq (r1.emb x))
omit [FloatOps F] in
theorem read_b (f : (cc0_stg3_0 : Ref sig .tc).ty.Contents (Elt F)) (x : S1.Idx) : (bM : Memref sig .tc .smem S1 .f32).view.readAt (Elt F) r1.toLoadRect f x = f only :=
  congrArg f (only_eq (r1.emb x))

/-- The meeting's two signals and its wait, before any program. -/
theorem run_meet (c p n : Dev nD) (hp : p = prv c) (hn : n = nxt c) (W : Waits sig Unit) (f : Buf (Elt F) ((c : Thread nD τ).loc cc0_scratch0))
    {α : Type} {Q : α → sProp 𝕄} {k : Prog (TpuEff nD τ sig (Elt F) Λ₀ .tc) α} :
    iprop(known m ρ K ∗ owes (c : Thread nD τ) (O₀ c) W ∗ meetIn c ∗ (bigSep Finset.univ fun h : Fin 31 => slotPts c (dst h) f)
        ∗ (((∃ W, owes (c : Thread nD τ) (landOwed c 0) W) ∗ meetPay (F := F) c ∗ semVal (cell c meetC) 0) -∗ run c k Q))
      ⊢ run c (semSignalWord p barS 1#32 >>= fun _ => semSignalWord n barS 1#32 >>= fun _ => semWaitWord barS 2#32 >>= fun _ => k) Q := by
  subst hp hn
  unfold run
  simp only [semSignalWord, semWaitWord, Prog.lift, Prog.bind_op, Prog.bind_ret, Prog.pure_eq_ret]
  unfold known meetIn
  iintro ⟨⟨#HR, #Hlev⟩, HO, ⟨Hat, HtP, HtN, Hc⟩, Hs, Hk⟩
  ihave #HI := (records_inv m ρ K c meetC) $$ HR
  ihave #HIp := (records_inv m ρ K (prv c) meetC) $$ HR
  ihave #HIn := (records_inv m ρ K (nxt c) meetC) $$ HR
  ihave #Hrp := (records_reached m ρ K (prv c) meetC) $$ HR
  ihave #Hrn := (records_reached m ρ K (nxt c) meetC) $$ HR
  iapply (Rounds.wp_signal 𝒱₀ ER (sched m ρ) (c : Thread nD τ) none (dst := (prv c : Thread nD τ)) (κ := K (prv c, meetC))
      (d := true) (mem_duties_meet m ρ (prv c) true) ((amount_at m ρ (prv c) meetC 0 true).trans (by decide)) () (O₁ c) rfl)
    $$ [HO HtP Hs]
  · isplitr; · iexact HIp
    isplitl [HO]; · iexact HO
    isplitl [HtP]; · iexact HtP
    isplitl [Hs]
    · iapply (pay_slots m ρ c f); iexact Hs
    iexact Hrp
  iintro HO
  unfold O₁
  iapply (Rounds.wp_signal 𝒱₀ ER (sched m ρ) (c : Thread nD τ) none (dst := (nxt c : Thread nD τ)) (κ := K (nxt c, meetC))
      (d := false) (mem_duties_meet m ρ (nxt c) false) ((amount_at m ρ (nxt c) meetC 0 false).trans (by decide)) () (landOwed c 0) rfl)
    $$ [HO HtN]
  · isplitr; · iexact HIn
    isplitl [HO]; · iexact HO
    isplitl [HtN]; · iexact HtN
    isplitr
    · iapply (pay_none m ρ (nxt c)); iempintro
    iexact Hrn
  iintro HO
  iapply (Rounds.wp_wait_rest_token 𝒱₀ ER (sched m ρ) (c : Thread nD τ) none (κ := K (c, meetC)) (sm := csem meetC)
      (wpE_semWait_eq 𝒱₀ (c : Thread nD τ) none Set.univ) (Set.mem_univ _) () (O := landOwed c 0) (W := W) (R := 0) (m := 0) (T := ∅)
      (by rw [expect_meet m ρ c]; decide)) $$ [Hc HO Hat]
  · isplitr; · iexact HI
    isplitl [Hc]; · iexact Hc
    isplitl [HO]; · iexact HO
    isplitr
    · iapply (mayWait_land c _ 0 (by rw [lv_at c meetC])); iexact Hlev
    iexact Hat
  iintro ⟨HO, Hat, -, Hpay⟩
  ihave Hp := (Entails.of_eq (rest_meet m ρ c)) $$ Hpay
  icases Hp with ⟨-, Hp⟩
  imod (Rounds.cell_close ER (sched m ρ) (Set.mem_univ (K (c, meetC))) (fun w => w) (R := 0 + 1) (duties_later m ρ (cell c meetC))) $$ [Hat] with Hz
  · isplitr; · iexact HI
    iexact Hat
  iapply Hk
  isplitl [HO]; · iexists _; iexact HO
  isplitl [Hp] <;> iassumption

theorem slot0_reads : (gM : Memref sig .tc .vmem S32x128x4096 .fp8e4m3).view.setOn (slotR 0).toLoadRect.set ⊆ (slotM 0).view.set := by
  have h := View.set_slice (gM : Memref sig .tc .vmem S32x128x4096 .fp8e4m3).view (slotR 0)
  rw [slot_set]; exact le_of_eq (h.symm.trans (View.set_slice_whole cc0_scratch0 (slotR 0)))
theorem slot0_writes : ((gM.access (slotR 0)) : View sig .tc _ _ _).setOn Finset.univ ⊆ (slotM 0).view.set := by
  rw [slot_set]; exact le_of_eq (View.set_slice_whole cc0_scratch0 (slotR 0))

set_option maxHeartbeats 800000 in
/-- The opening, run. -/
theorem run_opening (c : Dev nD) (W : Waits sig Unit) (f : Buf (Elt F) ((c : Thread nD τ).loc cc0_scratch0)) (u : Buf (Elt F) ((c : Thread nD τ).loc cc0_scratch1)) :
    iprop(known m ρ K ∗ owes (c : Thread nD τ) (O₀ c) W ∗ meetIn c ∗ bigSep Finset.univ (hopBase (F := F) c) ∗ staged m ρ c
        ∗ (((c : Thread nD τ).loc cc0_scratch0) ↦{fullShare} f) ∗ (((c : Thread nD τ).loc cc0_scratch1) ↦{fullShare} u))
      ⊢ run c opening fun k => iprop(⌜k.1 = c ∧ k.2.2.2 = scale m ρ c⌝ ∗ hopAt m ρ c 0 ∗ bigSep Finset.univ (hopIn (F := F) c) ∗ staged m ρ c
          ∗ (((c : Thread nD τ).loc cc0_scratch1) ↦{fullShare} wide m ρ c) ∗ semVal (cell c meetC) 0) := by
  unfold opening
  rw [k0_part1_eq_skeleton, slots_eq, bigSep_first fun s : Fin 32 => slotPts c s f]
  unfold k0_part1_skel run
  simp only [Prog.lift, Prog.bind_op, Prog.bind_ret, wp_deviceId]
  unfold staged
  iintro ⟨#Hk, HO, HM, HB, ⟨Hx, Hw, Ha, Hb⟩, ⟨H0, Hs⟩, Hu⟩
  iapply (run_meet m ρ K c _ _ (dev1_prv c) (dev2_nxt c) W f)
  isplitr; · iexact Hk
  isplitl [HO]; · iexact HO
  isplitl [HM]; · iexact HM
  isplitl [Hs]; · iexact Hs
  iintro ⟨HO, Hp, Hz⟩
  simp only [smemLoad, smemLoadElt, Prog.bind_op, Prog.bind_ret, Prog.pure_eq_ret]
  ihave HI := (hopIns c) $$ [HB Hp]
  · isplitl [HB] <;> iassumption
  iapply (wp_load 𝒱₀ (c : Thread nD τ) none Set.univ (m := xM) (Finset.subset_univ _)) $$ Hx; iintro Hx
  rw [read_x]
  unfold slotPts
  iapply (wp_load 𝒱₀ (c : Thread nD τ) none Set.univ (m := gM) slot0_reads) $$ H0; iintro H0
  iapply (wp_store 𝒱₀ (c : Thread nD τ) none Set.univ (m := gM) (r := slotR 0) (Mk := Finset.univ) slot0_writes) $$ H0; iintro H0
  ihave H0 := (slot0_stored m ρ c f) $$ H0
  iapply (wp_load 𝒱₀ (c : Thread nD τ) none Set.univ (m := wM) (Finset.subset_univ _)) $$ Hw; iintro Hw
  rw [read_w]
  iapply (wp_load 𝒱₀ (c : Thread nD τ) none Set.univ (m := uM) (Finset.subset_univ _)) $$ Hu; iintro Hu
  iapply (wp_store 𝒱₀ (c : Thread nD τ) none Set.univ (m := uM) (r := allR) (Mk := Finset.univ) (Finset.subset_univ _)) $$ Hu; iintro Hu
  rw [write_u]
  iapply (wp_load 𝒱₀ (c : Thread nD τ) none Set.univ (m := aM) (Finset.subset_univ _)) $$ Ha; iintro Ha
  rw [read_a]
  iapply (wp_load 𝒱₀ (c : Thread nD τ) none Set.univ (m := bM) (Finset.subset_univ _)) $$ Hb; iintro Hb
  rw [read_b, wp_ret]; imodintro
  isplitr; · ipureintro; exact ⟨rfl, rfl⟩
  isplitl [HO H0]
  · unfold hopAt
    isplitl [HO]; · iexact HO
    unfold slotPts; iexact H0
  isplitl [HI]; · iexact HI
  isplitl [Hx Hw Ha Hb]
  · isplitl [Hx]; · iexact Hx
    isplitl [Hw]; · iexact Hw
    isplitl [Ha] <;> iassumption
  isplitl [Hu]; · unfold wide; iexact Hu
  iexact Hz

end Cert.GatherMul

end
-- ==== Proof.Body.lean ====
/-
  The body as a whole: the opening, the hops, the gathered slots put together, the steps. And the launch's one obligation about it.
-/
module

public import proofs.«01_k».proof.Proof.Opening
public import proofs.«01_k».proof.Proof.Gen.KernelIdeal.Points

@[expose] public section

set_option maxRecDepth 16384

noncomputable section

namespace Cert.GatherMul

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (K : Dev nD × Cell → ℕ)

/-! ## The body -/

omit [FloatOps F] in
theorem split_sum {α β : Type} [Fintype α] [Fintype β] [DecidableEq α] [DecidableEq β] (Φ : α ⊕ β → sProp 𝕄) :
    bigSep Finset.univ Φ = iprop((bigSep Finset.univ fun a => Φ (.inl a)) ∗ bigSep Finset.univ fun b => Φ (.inr b)) := bigSep_univ_sum Φ

omit [FloatOps F] in
/-- After the hops: the whole buffer gathered, the hops' semaphores at zero, nothing owed. -/
theorem gathered (c : Dev nD) :
    iprop(hopAt m ρ c (Fin.last 31) ∗ bigSep Finset.univ (hopOut m ρ c))
      ⊢ iprop((∃ W, owes (c : Thread nD τ) 0 W) ∗ (((c : Thread nD τ).loc cc0_scratch0) ↦{fullShare} gath m ρ c)
          ∗ bigSep Finset.univ fun x : Fin 31 ⊕ Fin 31 => (semVal (cell c (.inr x)) 0 : sProp 𝕄)) := by
  unfold hopAt hopOut
  rw [slots_eq, bigSep_last fun s : Fin 32 => slotPts c s (gath m ρ c), split_sum, bigSep_sep', bigSep_sep',
    show landOwed c (Fin.last 31).val = 0 from landOwed_last c]
  iintro ⟨⟨HO, HL⟩, HS, Hl, Hr⟩
  isplitl [HO]; · iexact HO
  isplitl [HL HS]
  · isplitl [HL] <;> iassumption
  isplitl [Hl] <;> iassumption

/-- What a device has when its body returns, beside the staged operands and its result. -/
def Φ₁ (c : Dev nD) : sProp 𝕄 :=
  iprop((((c : Thread nD τ).loc cc0_scratch0) ↦{fullShare} gath m ρ c) ∗ (((c : Thread nD τ).loc cc0_scratch1) ↦{fullShare} wide m ρ c)
    ∗ (bigSep Finset.univ fun x : Fin 31 ⊕ Fin 31 => (semVal (cell c (.inr x)) 0 : sProp 𝕄)) ∗ semVal (cell c meetC) 0)

theorem run_body (c : Dev nD) (W : Waits sig Unit) (f : Buf (Elt F) ((c : Thread nD τ).loc cc0_scratch0)) (u : Buf (Elt F) ((c : Thread nD τ).loc cc0_scratch1))
    (o : Buf (Elt F) ((c : Thread nD τ).loc cc0_stg4_0)) :
    iprop((known m ρ K ∗ owes (c : Thread nD τ) (O₀ c) W ∗ meetIn c ∗ bigSep Finset.univ (hopBase (F := F) c) ∗ staged m ρ c
        ∗ (((c : Thread nD τ).loc cc0_scratch0) ↦{fullShare} f) ∗ (((c : Thread nD τ).loc cc0_scratch1) ↦{fullShare} u))
        ∗ (((c : Thread nD τ).loc cc0_stg4_0) ↦{fullShare} o))
      ⊢ run c bodyP fun _ => iprop(Φ₁ m ρ c ∗ (∃ W, owes (c : Thread nD τ) 0 W) ∗ staged m ρ c
          ∗ (((c : Thread nD τ).loc cc0_stg4_0) ↦{fullShare} outAt m ρ c)) := by
  rw [body_eq]
  unfold run
  rw [wp_bind]
  iintro ⟨⟨#Hk, Hin⟩, Ho⟩
  iapply (wp_wand_r frame (wpE (defs₀ (F := F)) 𝒱₀ (c : Thread nD τ) none) Set.univ)
  isplitl [Hin]
  · iapply (run_opening m ρ K c W f u)
    isplitr; · iexact Hk
    iexact Hin
  iintro %k ⟨%hk, Hat, HI, Hst, Hu, Hz⟩
  rw [hk.1, hk.2, wp_bind]
  iapply (wp_wand_r frame (wpE (defs₀ (F := F)) 𝒱₀ (c : Thread nD τ) none) Set.univ)
  isplitl [Hat HI]
  · iapply (run_hops m ρ K c)
    isplitr; · iexact Hk
    isplitl [Hat] <;> iassumption
  iintro %_ Hh
  ihave Hg := (gathered m ρ c) $$ Hh
  icases Hg with ⟨HO, HG, HZ⟩
  iapply (wp_wand_r frame (wpE (defs₀ (F := F)) 𝒱₀ (c : Thread nD τ) none) Set.univ)
  isplitl [HG Hu Ho]
  · iapply (run_steps m ρ c o)
    isplitl [HG]; · iexact HG
    isplitl [Hu] <;> iassumption
  iintro %_ ⟨HG, Hu, Ho⟩
  unfold Φ₁
  isplitl [HG Hu HZ Hz]
  · isplitl [HG]; · iexact HG
    isplitl [Hu]; · iexact Hu
    isplitl [HZ] <;> iassumption
  isplitl [HO]; · iexact HO
  isplitl [Hst] <;> iassumption

/-! ## What a device starts with -/

/-- A device's places, at all its cells; the duties it pays; and the credit of what it is owed. -/
def places (c : Dev nD) : sProp 𝕄 := bigSep Finset.univ fun k : Cell => atPos ER (cell c k) 0 ∅ 0
def payToks (c : Dev nD) : sProp 𝕄 :=
  iprop((dutyTok ER (cell (prv c) meetC) 0 true ∗ dutyTok ER (cell (nxt c) meetC) 0 false)
    ∗ (bigSep Finset.univ fun h : Fin 31 => dutyTok ER (cell c (leaveC h)) 0 false)
    ∗ bigSep Finset.univ fun h : Fin 31 => dutyTok ER (cell (nxt c) (landC h)) 0 false)
def credits (c : Dev nD) : sProp 𝕄 :=
  iprop(cred (tallyAt (cell c meetC) () 2) ∗ bigSep Finset.univ fun h : Fin 31 => cred (tallyAt (cell c (landC h)) () N))

/-- What the launch makes for a device; and that with the credits and the levels. -/
def ticket (c : Dev nD) : sProp 𝕄 := iprop(∃ K, records m ρ K ∗ places c ∗ payToks c)
def start (c : Dev nD) : sProp 𝕄 := iprop(ticket m ρ c ∗ credits c ∗ levAts L lv)

omit [FloatOps F] in
theorem one_place (c : Dev nD) : (bigSep Finset.univ fun _ : Unit => (atPos ER (cell c meetC) 0 ∅ 0 : sProp 𝕄)) ⊢ atPos ER (cell c meetC) 0 ∅ 0 :=
  bigSep_elim (Finset.mem_univ ())
omit [FloatOps F] in
theorem start_parts (c : Dev nD) : start m ρ c ⊢ iprop(∃ K, known m ρ K ∗ meetIn c ∗ bigSep Finset.univ (hopBase (F := F) c)) := by
  unfold start ticket places payToks credits
  rw [split_sum, split_sum]
  iintro ⟨⟨%K, HR, ⟨Ha, Hl, Hr⟩, ⟨H1, H2⟩, H3, H4⟩, ⟨Hc, Hcs⟩, HL⟩
  iexists K
  isplitl [HR HL]
  · unfold known; isplitl [HR] <;> iassumption
  isplitl [Ha H1 H2 Hc]
  · unfold meetIn
    isplitl [Ha]; · iapply (one_place (F := F) c); iexact Ha
    isplitl [H1]; · iexact H1
    isplitl [H2] <;> iassumption
  unfold hopBase
  simp only [bigSep_sep']
  isplitl [Hl]; · iexact Hl
  isplitl [Hr]; · iexact Hr
  isplitl [H3]; · iexact H3
  isplitl [H4] <;> iassumption

def Φ₀ (c : Dev nD) : sProp 𝕄 :=
  iprop(start m ρ c ∗ (∃ f : Buf (Elt F) ((c : Thread nD τ).loc cc0_scratch0), ((c : Thread nD τ).loc cc0_scratch0) ↦{fullShare} f)
    ∗ ∃ f : Buf (Elt F) ((c : Thread nD τ).loc cc0_scratch1), ((c : Thread nD τ).loc cc0_scratch1) ↦{fullShare} f)

/-! ## The launch's data -/

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => wstg m ρ c
    | ⟨2, _⟩ => astg m ρ c
    | ⟨3, _⟩ => bstg m ρ c
    | ⟨4, _⟩ => outAt m ρ c
  Φ t := match t with
    | ⟨0, _⟩ => Φ₀ m ρ c
    | ⟨_ + 1, _⟩ => Φ₁ m ρ c
  q _ := fullShare
  owed t := match t with
    | ⟨0, _⟩ => O₀ c
    | ⟨_ + 1, _⟩ => 0

omit [FloatOps F] in
theorem owns_whole (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ (((c : Thread nD τ).loc b) ↦{fullShare} f)) := by
  unfold owns; simp only [Memref.view_whole, View.read_whole, View.set_whole]

/-- Device `c`'s staging buffer `b`, at `X`. -/
abbrev stg (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

def bodyPre (c : Dev nD) : sProp 𝕄 :=
  iprop(Φ₀ m ρ c ∗ (dats m ρ 0 c).owesAt () t0_0.castSucc
    ∗ (∃ d, stg c cc0_stg0_0 ((dats m ρ 0 c).before (0 : Fin 5) t0_0 d)) ∗ (∃ d, stg c cc0_stg1_0 ((dats m ρ 0 c).before (1 : Fin 5) t0_0 d))
    ∗ (∃ d, stg c cc0_stg2_0 ((dats m ρ 0 c).before (2 : Fin 5) t0_0 d)) ∗ (∃ d, stg c cc0_stg3_0 ((dats m ρ 0 c).before (3 : Fin 5) t0_0 d))
    ∗ (∃ d, stg c cc0_stg4_0 ((dats m ρ 0 c).before (4 : Fin 5) t0_0 d)))
def bodyPost (c : Dev nD) : sProp 𝕄 :=
  iprop(Φ₁ m ρ c ∗ (dats m ρ 0 c).owesAt () t0_0.succ ∗ stg c cc0_stg0_0 (xstg m ρ c) ∗ stg c cc0_stg1_0 (wstg m ρ c)
    ∗ stg c cc0_stg2_0 (astg m ρ c) ∗ stg c cc0_stg3_0 (bstg m ρ c) ∗ stg c cc0_stg4_0 (outAt m ρ c))

omit [FloatOps F] in
theorem stg_intro (c : Dev nD) (b : Ref sig .tc) (X : b.ty.Contents (Elt F)) : (((c : Thread nD τ).loc b) ↦{fullShare} X : sProp 𝕄) ⊢ stg c b X := by
  iintro H; iexists X; isplitr; · (ipureintro; rfl)
  iexact H

theorem before_x (c : Dev nD) (d) : (dats m ρ 0 c).before (0 : Fin 5) t0_0 d = xstg m ρ c := by
  unfold Dat.before; rw [if_pos (fetch0_0 t0_0)]; rfl
theorem before_w (c : Dev nD) (d) : (dats m ρ 0 c).before (1 : Fin 5) t0_0 d = wstg m ρ c := by
  unfold Dat.before; rw [if_pos (fetch0_1 t0_0)]; rfl
theorem before_a (c : Dev nD) (d) : (dats m ρ 0 c).before (2 : Fin 5) t0_0 d = astg m ρ c := by
  unfold Dat.before; rw [if_pos (fetch0_2 t0_0)]; rfl
theorem before_b (c : Dev nD) (d) : (dats m ρ 0 c).before (3 : Fin 5) t0_0 d = bstg m ρ c := by
  unfold Dat.before; rw [if_pos (fetch0_3 t0_0)]; rfl

theorem sound (c : Dev nD) : bodyPre m ρ c ⊢ run c bodyP fun _ => bodyPost m ρ c := by
  unfold bodyPre Φ₀ Dat.owesAt Pipeline.owesWithin
  simp only [before_x, before_w, before_a, before_b]
  rw [show (dats m ρ 0 c).owed t0_0.castSucc = O₀ c from rfl]
  iintro ⟨⟨Hs, ⟨%f, Hf⟩, ⟨%u, Hu⟩⟩, ⟨%W, %hW, HO⟩, ⟨%_, %g0, %e0, H0⟩, ⟨%_, %g1, %e1, H1⟩, ⟨%_, %g2, %e2, H2⟩, ⟨%_, %g3, %e3, H3⟩, ⟨%_, %o, %_, H4⟩⟩
  subst e0 e1 e2 e3
  ihave Hs := (start_parts m ρ c) $$ Hs
  icases Hs with ⟨%K, HK, HM, HB⟩
  unfold run
  iapply (wp_wand_r frame (wpE (defs₀ (F := F)) 𝒱₀ (c : Thread nD τ) none) Set.univ)
  isplitl
  · iapply (run_body m ρ K c W f u o)
    isplitr [H4]; rotate_left
    · iexact H4
    isplitl [HK]; · iexact HK
    isplitl [HO]; · iexact HO
    isplitl [HM]; · iexact HM
    isplitl [HB]; · iexact HB
    isplitl [H0 H1 H2 H3]
    · unfold staged
      isplitl [H0]; · iexact H0
      isplitl [H1]; · iexact H1
      isplitl [H2] <;> iassumption
    isplitl [Hf] <;> iassumption
  iintro %_ ⟨HΦ, ⟨%W', HO⟩, Hst, H4⟩
  unfold bodyPost staged Dat.owesAt Pipeline.owesWithin
  rw [show (dats m ρ 0 c).owed t0_0.succ = 0 from rfl]
  icases Hst with ⟨H0, H1, H2, H3⟩
  isplitl [HΦ]; · iexact HΦ
  isplitl [HO]
  · iexists W'
    isplitr; · ipureintro; exact fun _ _ => Or.inl trivial
    iexact HO
  isplitl [H0]; · iapply (stg_intro (F := F)); iexact H0
  isplitl [H1]; · iapply (stg_intro (F := F)); iexact H1
  isplitl [H2]; · iapply (stg_intro (F := F)); iexact H2
  isplitl [H3]; · iapply (stg_intro (F := F)); iexact H3
  iapply (stg_intro (F := F)); iexact H4

/-- The launch's obligation about the body, on device `c`. -/
theorem body_obligation (c : Dev nD) : BodyObligation (dats (F := F) m ρ 0 c) (defs₀ (F := F)) 𝒱₀ () Set.univ := fun t => by
  rw [fin_N0 t]
  rw [bigSep_W0, bigSep_W0]
  simp only [owns_whole]
  exact sound m ρ c

end Cert.GatherMul

end
-- ==== Proof.Run.lean ====
/-
  The launch: the cells' tokens and the counters are made into each device's ticket, the credits are counted, and the run of
  every weakly fair execution follows: each device's result array at the computed contents, every counter at zero.
-/
module

public import proofs.«01_k».proof.Proof.Body
public import proofs.«01_k».proof.Proof.Gen.KernelIdeal.Frame
public import Idealize.ShloMosaic.Lib.Quiescent
public import Idealize.ShloMosaic.Lib.Pipeline.CollectiveSegs

@[expose] public section

set_option maxRecDepth 16384

noncomputable section

namespace Cert.GatherMul

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The semaphores -/

theorem stage_val : ∀ (w : Fin 5) (s), ((spec0 w).sem s : DmaSem sig).val < 5 := by decide

theorem ownSemFacts : Pipeline.OwnSemFacts cfg0.spec hsem where
  isScoped := by
    rintro (h | h)
    · exact (by decide : ∀ h : Fin 31, (SemLoc.dma (sendS h).sem : SemLoc sig).isScoped .tc = true) h
    · exact (by decide : ∀ h : Fin 31, (SemLoc.dma (recvS h).sem : SemLoc sig).isScoped .tc = true) h
  inj := fun a b h => Sum.inr.inj (csem_injective (show csem (.inr a) = csem (.inr b) from h))
  disj := by
    rintro (h | h) w s e
    · have h1 := sendS_val h; have h2 := stage_val w s
      have h3 : (sendS h).sem = (spec0 w).sem s := SemLoc.dma.inj e
      rw [h3] at h1; omega
    · have h1 := recvS_val h; have h2 := stage_val w s
      have h3 : (recvS h).sem = (spec0 w).sem s := SemLoc.dma.inj e
      rw [h3] at h1; omega

abbrev ownZero (c : Dev nD) : sProp 𝕄 := Pipeline.ownSems0 (Ix := Unit) (Name := ℕ) (U := UU) (Lvl := ℕ) (Val := Elt F) (τ := τ) hsem c

omit [FloatOps F] in
theorem ownZero_eq (c : Dev nD) : ownZero (F := F) c = bigSep Finset.univ fun x : Fin 31 ⊕ Fin 31 => (semVal (cell c (.inr x)) 0 : sProp 𝕄) := rfl
omit [FloatOps F] in
theorem unscopedZero_eq (c : Dev nD) : (unscopedSems0 c : sProp 𝕄) = semVal (cell c meetC) 0 := by
  unfold unscopedSems0; rw [bigSep_eq_bigSepL_of_eq [SemLoc.reg barS] (by decide) (by decide)]; rfl

omit [FloatOps F] in
theorem one_unit (Φ : Unit → sProp 𝕄) : bigSep Finset.univ Φ = Φ () := bigSep_univ_of_subsingleton ()

omit [FloatOps F] in
/-- All of a device's counters at zero, cell by cell. -/
theorem zeros (c : Dev nD) : iprop(ownZero (F := F) c ∗ unscopedSems0 c) ⊢ bigSep Finset.univ fun k : Cell => (semVal (cell c k) 0 : sProp 𝕄) := by
  rw [split_sum, one_unit, ownZero_eq, unscopedZero_eq]
  iintro ⟨H1, H2⟩
  isplitl [H2] <;> iassumption

/-! ## The cells and the tokens -/

def allCells : Finset (GSem nD τ sig) :=
  Finset.univ.map ⟨fun ck : Dev nD × Cell => cell ck.1 ck.2, fun a b h => Prod.ext (cell_inj h).1 (cell_inj h).2⟩

/-- A device's tokens: one for each cell, and a second for the meeting. -/
abbrev Tok : Type := Cell ⊕ Unit
abbrev tokOf : Dev nD × Tok → GSem nD τ sig × ℕ × Bool
  | (c, .inl k) => (cell c k, 0, false)
  | (c, .inr _) => (cell c meetC, 0, true)
theorem tokOf_injective : Function.Injective tokOf := by
  rintro ⟨c, k | u⟩ ⟨d, l | v⟩ h
  · obtain ⟨rfl, rfl⟩ := cell_inj (congrArg (fun x : GSem nD τ sig × ℕ × Bool => x.1) h); rfl
  · exact absurd (show false = true from congrArg (fun x : GSem nD τ sig × ℕ × Bool => x.2.2) h) (by decide)
  · exact absurd (show true = false from congrArg (fun x : GSem nD τ sig × ℕ × Bool => x.2.2) h) (by decide)
  · obtain ⟨rfl, -⟩ := cell_inj (congrArg (fun x : GSem nD τ sig × ℕ × Bool => x.1) h); rfl
def allToks : Finset (GSem nD τ sig × ℕ × Bool) := Finset.univ.map ⟨tokOf, tokOf_injective⟩

def u₀ : UU := (initOf (Pipeline.cells cfgs cellOf_inj) (Pipeline.launchToks cfgs cellOf_inj), initOf allCells allToks)

def toks (c : Dev nD) : sProp 𝕄 :=
  iprop((bigSep Finset.univ fun k : Cell => dutyTok ER (cell c k) 0 false) ∗ dutyTok ER (cell c meetC) 0 true)

/-- What the launch deals device `c`. -/
def G (c : Dev nD) : sProp 𝕄 :=
  iprop((bigSep Finset.univ fun k : Cell => roundState ER (sched m ρ) (cell c k) 0)
    ∗ (places c ∗ bigSep Finset.univ fun k : Cell => reached ER (cell c k) 0) ∗ toks c)

omit [FloatOps F] in
theorem fund_all : BI.own (ER (initOf allCells allToks)) ⊢ (|==> bigSep Finset.univ (G m ρ) : sProp 𝕄) := by
  have hX (Φ : GSem nD τ sig → sProp 𝕄) : bigSep allCells Φ = bigSep Finset.univ fun c : Dev nD => bigSep Finset.univ fun k : Cell => Φ (cell c k) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]
    exact bigSep_congr fun c _ => by unfold toks; rw [split_sum, one_unit]; rfl
  iintro HX
  imod (Rounds.fund ER (sched m ρ) allCells allToks) $$ HX with ⟨Hst, Hr, Hat, Htok⟩
  imodintro
  ihave Hst := (Entails.of_eq (hX fun g => roundState ER (sched m ρ) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G places; simp only [bigSep_sep']
  isplitl [Hst]; · iexact Hst
  isplitl [Hat Hr]
  · isplitl [Hat] <;> iassumption
  iexact Htok

omit [FloatOps F] in
theorem core_alloc (c : Dev nD) :
    iprop(ownZero (F := F) c ∗ unscopedSems0 c ∗ G m ρ c)
      ⊢ |={Set.univ}=> iprop((bigSep Finset.univ fun k : Cell => iprop(∃ κ : ℕ, cellInv ER (sched m ρ) κ (cell c k)))
          ∗ (places c ∗ bigSep Finset.univ fun k : Cell => reached ER (cell c k) 0) ∗ toks c) := by
  have halloc : iprop((bigSep Finset.univ fun k : Cell => semVal (cell c k) 0) ∗ bigSep Finset.univ fun k : Cell => roundState ER (sched m ρ) (cell c k) 0)
      ⊢ (|={Set.univ}=> bigSep Finset.univ fun k : Cell => iprop(∃ κ : ℕ, cellInv ER (sched m ρ) κ (cell c k)) : sProp 𝕄) := by
    rw [← bigSep_sep']
    exact (bigSep_mono fun k _ => (Rounds.body_intro ER (sched m ρ) (cell c k)).trans inv_alloc).trans (bigSep_fupd _ _)
  unfold G
  iintro ⟨Hos, Hus, Hst, Hat, Htok⟩
  ihave Hv := (zeros (F := F) c) $$ [Hos Hus]
  · isplitl [Hos] <;> iassumption
  imod halloc $$ [Hv Hst] with Hinv
  · isplitl [Hv] <;> iassumption
  imodintro
  isplitl [Hinv]; · iexact Hinv
  isplitl [Hat] <;> iassumption

omit [FloatOps F] in
/-- The tokens dealt around the ring: each device keeps its departures', and takes its neighbours' that it pays. -/
theorem toks_around : (bigSep Finset.univ fun c : Dev nD => (toks c : sProp 𝕄)) ⊢ bigSep Finset.univ fun c : Dev nD => payToks c := by
  have hs (c : Dev nD) : (toks c : sProp 𝕄) = iprop((dutyTok ER (cell c meetC) 0 false ∗ (bigSep Finset.univ fun h : Fin 31 => dutyTok ER (cell c (leaveC h)) 0 false)
      ∗ bigSep Finset.univ fun h : Fin 31 => dutyTok ER (cell c (landC h)) 0 false) ∗ dutyTok ER (cell c meetC) 0 true) := by
    unfold toks; rw [split_sum, one_unit, split_sum]
  rw [bigSep_congr fun c _ => hs c]
  unfold payToks
  rw [bigSep_sep', bigSep_sep', bigSep_sep', bigSep_sep', bigSep_sep', bigSep_sep',
    bigSep_univ_equiv around (fun c : Dev nD => (dutyTok ER (cell c meetC) 0 false : sProp 𝕄)),
    bigSep_univ_equiv around.symm (fun c : Dev nD => (dutyTok ER (cell c meetC) 0 true : sProp 𝕄)),
    bigSep_univ_equiv around (fun c : Dev nD => (bigSep Finset.univ fun h : Fin 31 => dutyTok ER (cell c (landC h)) 0 false : sProp 𝕄))]
  iintro ⟨⟨H1, H2, H3⟩, H4⟩
  isplitl [H1 H4]
  · isplitl [H4]; · iexact H4
    iexact H1
  isplitl [H2]; · iexact H2
  iexact H3

omit [FloatOps F] in
theorem ticket_intro (K : Dev nD × Cell → ℕ) (c : Dev nD) : iprop(records m ρ K ∗ places c ∗ payToks c) ⊢ ticket m ρ c := by
  unfold ticket
  iintro H; iexists K; iexact H

omit [FloatOps F] in
theorem regroup :
    (bigSep Finset.univ fun c : Dev nD => iprop((bigSep Finset.univ fun k : Cell => iprop(∃ κ : ℕ, cellInv ER (sched m ρ) κ (cell c k)))
          ∗ (places c ∗ bigSep Finset.univ fun k : Cell => reached ER (cell c k) 0) ∗ toks c) : sProp 𝕄)
      ⊢ bigSep Finset.univ (ticket m ρ) := by
  have hdeal (K : Dev nD × Cell → ℕ) : iprop(records m ρ K ∗ bigSep Finset.univ fun c : Dev nD => iprop(places (F := F) c ∗ payToks c)) ⊢ bigSep Finset.univ (ticket m ρ) :=
    (sep_mono_left (BI.bigSep_of_persistent Finset.univ (records m ρ K))).trans (by rw [← bigSep_sep']; exact bigSep_mono fun c _ => ticket_intro m ρ K c)
  rw [bigSep_sep', bigSep_sep', bigSep_sep', ← bigSep_univ_prod (fun ck : Dev nD × Cell => iprop(∃ κ : ℕ, cellInv ER (sched m ρ) κ (cell ck.1 ck.2))),
    ← bigSep_univ_prod (fun ck : Dev nD × Cell => (reached ER (cell ck.1 ck.2) 0 : sProp 𝕄))]
  iintro ⟨HI, ⟨Hat, #HR⟩, Htok⟩
  ihave HK := (BI.bigSep_exists_pi Finset.univ (fun (ck : Dev nD × Cell) (κ : ℕ) => (cellInv ER (sched m ρ) κ (cell ck.1 ck.2) : sProp 𝕄))) $$ HI
  icases HK with ⟨%K, #HI⟩
  ihave Htk := (toks_around (F := F)) $$ Htok
  iapply (hdeal K)
  isplitr
  · unfold records; isplitl; · iexact HI
    iexact HR
  rw [bigSep_sep']
  isplitl [Hat] <;> iassumption

omit [FloatOps F] in
theorem glob : (bigSep Finset.univ fun c => iprop(ownZero (F := F) c ∗ unscopedSems0 c ∗ G m ρ c) : sProp 𝕄)
    ⊢ |={Set.univ}=> bigSep Finset.univ (ticket m ρ) :=
  ((bigSep_mono fun c _ => core_alloc m ρ c).trans (bigSep_fupd _ _)).trans (BI.fupd_mono (regroup m ρ))

/-! ## The credits -/

theorem nxt_inj {a b : Dev nD} (h : nxt a = nxt b) : a = b := by rw [← prv_nxt a, h, prv_nxt]
theorem prv_inj {a b : Dev nD} (h : prv a = prv b) : a = b := by rw [← nxt_prv a, h, nxt_prv]

/-- What `d` owes `c`'s meeting cell: a unit if it is the device to the right, a unit if it is the one to the left. -/
theorem owed_meet (d c : Dev nD) : O₀ d (cell c meetC) () = (if d = prv c then 1 else 0) + (if d = nxt c then 1 else 0) := by
  have hl : landOwed d 0 (cell c meetC) () = 0 := by
    by_contra hn
    obtain ⟨h, -, e⟩ := landOwed_pos (Nat.pos_of_ne_zero hn)
    exact absurd (cell_inj e).2 (by simp)
  have h1 : cell c meetC = cell (nxt d) meetC ↔ d = prv c :=
    ⟨fun e => nxt_inj (by rw [nxt_prv]; exact (cell_inj e).1.symm), fun e => by rw [e, nxt_prv]⟩
  have h2 : cell c meetC = cell (prv d) meetC ↔ d = nxt c :=
    ⟨fun e => prv_inj (by rw [prv_nxt]; exact (cell_inj e).1.symm), fun e => by rw [e, prv_nxt]⟩
  rw [O₀_apply, hl, Nat.zero_add]
  simp only [h1, h2]

/-- What `d` owes the cell of `c`'s arrival `h`. -/
theorem owed_land (d c : Dev nD) (h : Fin 31) : O₀ d (cell c (landC h)) () = if d = prv c then N else 0 := by
  have hk (x : Fin 31) : (cell c (landC h) = cell (nxt d) (landC x)) ↔ (x = h ∧ d = prv c) := by
    refine ⟨fun e => ⟨(Sum.inr.inj (Sum.inr.inj (cell_inj e).2)).symm, nxt_inj (by rw [nxt_prv]; exact (cell_inj e).1.symm)⟩, fun ⟨e1, e2⟩ => by rw [e1, e2, nxt_prv]⟩
  have hm (b : Dev nD) : ¬ cell c (landC h) = cell b meetC := fun e => absurd (cell_inj e).2 (by simp)
  rw [O₀_apply, landOwed_apply]
  simp only [hk, hm, if_false, Nat.add_zero, Nat.zero_le, Finset.filter_true, _root_.and_true]
  by_cases hd : d = prv c
  · simp only [eq_true hd, _root_.and_true, if_true]
    rw [Finset.sum_ite_eq' Finset.univ h fun _ => N, if_pos (Finset.mem_univ _)]
  · simp only [eq_false hd, _root_.and_false, if_false, Finset.sum_const_zero]

theorem launch_meet (c : Dev nD) :
    tallyOn (cell c meetC) (launchCredit (Pipeline.owing O₀) 0 (cell c meetC)) = (tallyAt (cell c meetC) () 2 : CellTallies nD τ sig Unit) := by
  unfold tallyAt; refine congrArg _ (Finsupp.ext fun u => ?_); cases u
  rw [Pipeline.launchCredit_owing, Finsupp.single_eq_same, Finset.sum_congr rfl fun d _ => owed_meet d c, Finset.sum_add_distrib,
    Finset.sum_ite_eq' Finset.univ (prv c) fun _ => 1, Finset.sum_ite_eq' Finset.univ (nxt c) fun _ => 1, if_pos (Finset.mem_univ _), if_pos (Finset.mem_univ _)]
theorem launch_land (c : Dev nD) (h : Fin 31) :
    tallyOn (cell c (landC h)) (launchCredit (Pipeline.owing O₀) 0 (cell c (landC h))) = (tallyAt (cell c (landC h)) () N : CellTallies nD τ sig Unit) := by
  unfold tallyAt; refine congrArg _ (Finsupp.ext fun u => ?_); cases u
  rw [Pipeline.launchCredit_owing, Finsupp.single_eq_same, Finset.sum_congr rfl fun d _ => owed_land d c h, Finset.sum_ite_eq' Finset.univ (prv c) fun _ => N,
    if_pos (Finset.mem_univ _)]

omit [FloatOps F] in
theorem creds (c : Dev nD) : (Pipeline.launchCred O₀ c : sProp 𝕄) ⊢ credits c := by
  have hall : (Pipeline.launchCred O₀ c : sProp 𝕄) ⊢ bigSep Finset.univ fun k : Cell => cred (tallyOn (cell c k) (launchCredit (Pipeline.owing O₀) 0 (cell c k))) := by
    unfold Pipeline.launchCred
    have h := bigSep_subset (Finset.subset_univ (Finset.univ.map ⟨csem, csem_injective⟩))
      (Φ := fun sm : SemLoc sig => (cred (tallyOn ((c : Thread nD τ), sm) (launchCredit (Pipeline.owing O₀) 0 ((c : Thread nD τ), sm))) : sProp 𝕄))
    rw [bigSep_map] at h
    exact h
  have hsplit : (bigSep Finset.univ fun k : Cell => (cred (tallyOn (cell c k) (launchCredit (Pipeline.owing O₀) 0 (cell c k))) : sProp 𝕄)) ⊢ credits c := by
    unfold credits
    rw [split_sum, one_unit, split_sum, launch_meet, bigSep_congr fun h _ => congrArg cred (launch_land c h)]
    iintro ⟨H1, -, H2⟩
    isplitl [H1] <;> iassumption
  exact hall.trans hsplit

/-! ## The launch's side conditions -/

omit [FloatOps F] in
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ ticket m ρ c)
      ⊢ |={Set.univ}=> iprop(start m ρ c ∗ emp) := by
  iintro ⟨-, HL, Hcr, -, HG⟩
  ihave Hc := (creds (F := F) c) $$ Hcr
  imodintro
  unfold start
  isplitl
  · isplitl [HG]; · iexact HG
    isplitl [Hc] <;> iassumption
  iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀
  iintro ⟨Hs, -, Hr⟩
  isplitl [Hs] <;> iassumption

theorem phi1_exit (c : Dev nD) :
    (dats m ρ 0 c).Φ (Fin.last cfg0.N) ⊢ iprop(unscopedSems0 c ∗ ownZero (F := F) c ∗ Pipeline.scopedRest cfg0.spec c) := by
  rw [show (dats m ρ 0 c).Φ (Fin.last cfg0.N) = Φ₁ m ρ c from rfl, scopedRest0_eq, ownZero_eq, unscopedZero_eq]
  unfold Φ₁
  iintro ⟨HG, HU, HZ, Hz⟩
  isplitl [Hz]; · iexact Hz
  isplitl [HZ]; · iexact HZ
  isplitl [HG]; · iexists _; iexact HG
  iexists _; iexact HU

theorem share_eq (c : Dev nD) (w : Fin cfg0.W) : (dats m ρ 0 c).share w = fullShare := by unfold Dat.share; split <;> rfl

theorem lv_stage (c : Dev nD) (w : Fin 5) (s) : lv ((c : Thread nD τ), .dma ((spec0 w).sem s)) () ≤ 0 := by
  have h := stage_val w s
  show (role (.dma ((spec0 w).sem s))).elim 0 levOf ≤ 0
  unfold role; dsimp only
  rw [dif_neg (fun e => by omega), dif_neg (fun e => by omega)]
  exact Nat.le_refl 0

theorem waits (c : Dev nD) : (levAts L lv : sProp 𝕄) ⊢ Pipeline.cellsWaits cfgs (dats m ρ) () 0 c :=
  Pipeline.cellsWaits_intro cfgs (dats m ρ) () 0 c fun w s t =>
    mayWait_below c _ 0 _ (lv_stage c w s) (by
      rcases t with ⟨_ | _, ht⟩
      · exact fun g u hp => O₀_pos hp
      · exact fun g u hp => absurd hp (Nat.lt_irrefl 0))

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

/-- For any float values, from any memory with zero counters, every weakly fair execution terminates, and every final state has
    each device's arrays at their computed contents and every counter at zero. -/
theorem run_region : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun c => (main_chain c).trans rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := ticket m ρ) (u₀ := u₀)
    (hu₀ := by
      unfold u₀
      iintro Hu
      ihave H := (ownU_pair _ _) $$ Hu
      icases H with ⟨HP, HX⟩
      imod (fund_all m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.GatherMul

end
-- ==== Proof.Value.lean ====
/-
  The values at the ideal instance. Device `c`'s result and the reference's are the same function, the activation of a sum of
  products times the product of the scales, of the same entries: row `i 0` of the whole left operand is row `i 0 % 128` of the
  block of device `i 0 / 128`, which is the block that device `c` multiplies when it fills that row.
-/
module

public import proofs.«01_k».proof.Proof.Run
public import proofs.«01_k».proof.Proof.Gen.ReferenceIdeal.Value
public import Idealize.ShloMosaic.Lib.MatmulPlain
public import Idealize.ShloMosaic.Lib.Layout

@[expose] public section

set_option maxRecDepth 16384

noncomputable section

namespace Cert.GatherMul

open Cert.KernelIdeal Cert.KernelIdeal.Gen
open Idealize.ShloMosaic Idealize.ShloMosaic.TcCoe Idealize.ShloMosaic.ValueIdx
open Idealize.SL.Sem

section
variable {F : FTy → Type} [FloatOps F]
variable (m : (ℓ : Loc nD τ sig) → Buf (Elt F) ℓ) (ρ : Dev nD → PrngReg)

/-! ## The windows are the arrays -/

theorem emb_x (j : S128x4096.Idx) : (win0_0.blk (0 : Fin 1)).view.emb j = j := by
  funext a; apply Fin.ext
  match a with
  | ⟨0, _⟩ => show 0 * 128 + 1 * (j 0).val = (j 0).val; omega
  | ⟨1, _⟩ => show 0 * 4096 + 1 * (j 1).val = (j 1).val; omega
theorem emb_w (j : S4096x256.Idx) : (win0_1.blk (0 : Fin 1)).view.emb j = j := by
  funext a; apply Fin.ext
  match a with
  | ⟨0, _⟩ => show 0 * 4096 + 1 * (j 0).val = (j 0).val; omega
  | ⟨1, _⟩ => show 0 * 256 + 1 * (j 1).val = (j 1).val; omega
theorem emb_out (j : S4096x256.Idx) : (win0_4.blk (0 : Fin 1)).view.emb j = j := emb_w j

theorem xstg_eq (c : Dev nD) : xstg m ρ c = m ((c : Thread nD τ).loc main_arg0) := funext fun j => congrArg (m ((c : Thread nD τ).loc main_arg0)) (emb_x j)
theorem wstg_eq (c : Dev nD) : wstg m ρ c = m ((c : Thread nD τ).loc main_arg1) := funext fun j => congrArg (m ((c : Thread nD τ).loc main_arg1)) (emb_w j)
/-- A vector of one element has one index. -/
theorem one_index (i j : S1.Idx) : i = j := funext fun a => by
  match a with
  | ⟨0, _⟩ => exact Subsingleton.elim (α := Fin 1) _ _
theorem astg_eq (c : Dev nD) : astg m ρ c = m ((c : Thread nD τ).loc main_arg2) := funext fun j => congrArg (m ((c : Thread nD τ).loc main_arg2)) (one_index _ j)
theorem bstg_eq (c : Dev nD) : bstg m ρ c = m ((c : Thread nD τ).loc main_arg3) := funext fun j => congrArg (m ((c : Thread nD τ).loc main_arg3)) (one_index _ j)

/-! ## The run, read -/

theorem out_final (c : Dev nD) : finalA m ρ c 4 = outAt m ρ c := by
  refine (dats m ρ 0 c).arrAt_eq_of_cover 4 (outAt m ρ c) (fun t _ => ?_) fun i => ⟨(0 : Fin 1), flush0_4 _, ?_⟩
  · rw [show t = (0 : Fin 1) from Subsingleton.elim (α := Fin 1) _ _]
    exact funext fun j => congrArg (outAt m ρ c) (emb_out j).symm
  · have h := (win0_4.blk (0 : Fin 1)).view.emb_mem_set i
    rwa [emb_out] at h

/-- On every device the result is the computed contents and the arguments are as launched; every counter is at zero. -/
theorem run_main : θ_run defs (onTc (τ := τ) (main (F := F))) ⟨m, fun _ => 0, ρ⟩ fun r => (∀ c : Dev nD,
      r.2.mem ((c.tc : Thread nD τ).loc main_v1) = outAt m ρ c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0 :=
  (θ_run defs _ _).mono (fun r h => ⟨fun c => ⟨(h.1 c 4).trans (out_final m ρ c), (h.1 c 0).trans ((dats m ρ 0 c).arrAt_in 0 rfl _),
      (h.1 c 1).trans ((dats m ρ 0 c).arrAt_in 1 rfl _), (h.1 c 2).trans ((dats m ρ 0 c).arrAt_in 2 rfl _),
      (h.1 c 3).trans ((dats m ρ 0 c).arrAt_in 3 rfl _)⟩, h.2⟩) (run_region m ρ)

/-! ## The activation -/

/-- The activation of one number. -/
def act (y : F .f32) : F .f32 :=
  FloatOps.divf y (FloatOps.addf (FloatOps.ofBits .f32 0x3F800000#32) (FloatOps.exp (FloatOps.subf (FloatOps.ofBits .f32 0x00000000#32)
    (FloatOps.minimumf (FloatOps.ofBits .f32 0x42700000#32) (FloatOps.maximumf (FloatOps.ofBits .f32 0xC2700000#32) y)))))
end

/-! ## One entry of either side -/

theorem kernel_entry (v : Ideal .f32) (a : Vec Ideal S1x128x4096 .fp8e4m3) (b : Vec Ideal S4096x256 .bf16) (r : Fin 128) (q : Fin 256) :
    k0_pay1 v a b (ix2 r q)
      = act (F := Ideal) (FloatOps.mulf (φ := .f32) (FloatOps.ofBits (F := Ideal) .f32 0x00000000#32 + ∑ k : Fin 4096, (a (Fin.cons ⟨0, Nat.one_pos⟩ (ix2 r k)) : EReal) * (b (ix2 k q) : EReal)) v) := by
  have h := Ideal.matmul_plain_apply (M := 128) (K := 4096) (N := 256) (φ₂ := .bf16) none
    (extf .bf16 (shapeCast S128x4096 a shapeCasts_S1x128x4096_S128x4096) bitsLt_fp8e4m3_bf16) b (constant S128x256 .f32 0x00000000#32) r q
  have e (k : Fin 4096) : (extf (F := Ideal) .bf16 (shapeCast S128x4096 a shapeCasts_S1x128x4096_S128x4096) bitsLt_fp8e4m3_bf16 (ix2 r k) : EReal)
      = a (Fin.cons ⟨0, Nat.one_pos⟩ (ix2 r k)) := shapeCast_dropUnit_apply ![128, 4096] a shapeCasts_S1x128x4096_S128x4096 (ix2 r k)
  simp only [e] at h
  exact congrArg (fun z => act (F := Ideal) (FloatOps.mulf (φ := .f32) z v)) h

theorem reference_entry (x : Vec Ideal Cert.ReferenceIdeal.S4096x4096 .fp8e4m3) (w : Vec Ideal Cert.ReferenceIdeal.S4096x8192 .fp8e5m2) (a b : Vec Ideal S1 .f32)
    (r : Fin 4096) (q : Fin 8192) :
    Cert.ReferenceIdeal.Value.G4 x w a b (ix2 r q)
      = act (F := Ideal) (FloatOps.mulf (φ := .f32) (FloatOps.ofBits (F := Ideal) .f32 0x00000000#32 + ∑ k : Fin 4096, (x (ix2 r k) : EReal) * (w (ix2 k q) : EReal)) (FloatOps.mulf (φ := .f32) (a only) (b only))) := by
  have h := Ideal.matmul_plain_apply (M := 4096) (K := 4096) (N := 8192) none
    (extf (F := Ideal) .f32 x Cert.ReferenceIdeal.Gen.bitsLt_fp8e4m3_f32) (extf .f32 w Cert.ReferenceIdeal.Gen.bitsLt_fp8e5m2_f32) (constant Cert.ReferenceIdeal.S4096x8192 .f32 0x00000000#32) r q
  have h1 : ∀ i : S1.Idx, FloatOps.mulf (F := Ideal) (φ := .f32) (a i) (b i) = FloatOps.mulf (φ := .f32) (a only) (b only) := fun i => by rw [one_index i only]
  exact (congrArg (fun z => act (F := Ideal) (FloatOps.mulf (φ := .f32) _ z)) (h1 _)).trans
    (congrArg (fun z => act (F := Ideal) (FloatOps.mulf (φ := .f32) z (FloatOps.mulf (φ := .f32) (a only) (b only)))) h)

/-! ## Device `c`'s block -/

variable (m : (ℓ : Loc nD τ sig) → Buf (Elt Ideal) ℓ) (ρ : Dev nD → PrngReg)

theorem block_entry (c : Dev nD) (x : Vec Ideal Cert.ReferenceIdeal.S4096x4096 .fp8e4m3) (w : Vec Ideal Cert.ReferenceIdeal.S4096x8192 .fp8e5m2) (a b : Vec Ideal S1 .f32)
    (hx : ∀ d : Dev nD, m ((d.tc : Thread nD τ).loc main_arg0) = Layout.block ⟨2, ![128, 4096]⟩ ⟨2, ![4096, 4096]⟩ 0 32 d x)
    (hw : m ((c.tc : Thread nD τ).loc main_arg1) = Layout.block ⟨2, ![4096, 256]⟩ ⟨2, ![4096, 8192]⟩ 1 32 c w)
    (ha : m ((c.tc : Thread nD τ).loc main_arg2) = a) (hb : m ((c.tc : Thread nD τ).loc main_arg3) = b) :
    outAt m ρ c = Layout.block ⟨2, ![4096, 256]⟩ ⟨2, ![4096, 8192]⟩ 1 32 c (Cert.ReferenceIdeal.Value.G4 x w a b) := by
  funext i
  have hi : (i 0).val < 4096 := (i 0).isLt
  have hq : (i 1).val < 256 := (i 1).isLt
  have hc : c.val < 32 := c.isLt
  have e2 : (Layout.Tiles.idx (S := ⟨2, ![4096, 256]⟩) (T := ⟨2, ![4096, 8192]⟩) (a := 1) (k := 32) (by decide) c i)
      = ix2 (⟨(i 0).val, hi⟩ : Fin 4096) (⟨c.val * 256 + (i 1).val, by omega⟩ : Fin 8192) := by
    funext d; apply Fin.ext
    match d with
    | ⟨0, _⟩ => rfl
    | ⟨1, _⟩ => rfl
  have e1 : inBlock i = ix2 (⟨(i 0).val % 128, Nat.mod_lt _ (by decide)⟩ : Fin 128) (⟨(i 1).val, hq⟩ : Fin 256) := by
    funext d; apply Fin.ext
    match d with
    | ⟨0, _⟩ => rfl
    | ⟨1, _⟩ => rfl
  show k0_pay1 (scale m ρ c) (slotOf m ρ c (stepOf c i)) (wide m ρ c) (inBlock i) = Cert.ReferenceIdeal.Value.G4 x w a b (Layout.Tiles.idx _ c i)
  rw [e2, e1, kernel_entry, reference_entry]
  have hs : scale m ρ c = FloatOps.mulf (F := Ideal) (φ := .f32) (a only) (b only) := by
    unfold scale; rw [astg_eq, bstg_eq, ha, hb]; rfl
  have hX (k : Fin 4096) : (slotOf m ρ c (stepOf c i) (Fin.cons ⟨0, Nat.one_pos⟩ (ix2 (⟨(i 0).val % 128, Nat.mod_lt _ (by decide)⟩ : Fin 128) k)) : EReal)
      = x (ix2 (⟨(i 0).val, hi⟩ : Fin 4096) k) := by
    unfold slotOf gath
    rw [xstg_eq, hx]
    refine congrArg x (funext fun d => Fin.ext ?_)
    match d with
    | ⟨0, _⟩ =>
      show ((c.val + 32 - ((c.val + 32 - (i 0).val / 128) % 32 + 1 * 0)) % 32) * 128 + (0 + 1 * ((i 0).val % 128)) = (i 0).val
      omega
    | ⟨1, _⟩ => show 0 + 1 * k.val = k.val; omega
  have hW (k : Fin 4096) : (wide m ρ c (ix2 k (⟨(i 1).val, hq⟩ : Fin 256)) : EReal) = w (ix2 k (⟨c.val * 256 + (i 1).val, by omega⟩ : Fin 8192)) := by
    unfold wide k0_pay3
    rw [shapeCast_self, shapeCast_self, wstg_eq, hw]
    refine congrArg w (funext fun d => Fin.ext ?_)
    match d with
    | ⟨0, _⟩ => rfl
    | ⟨1, _⟩ => rfl
  rw [hs]
  simp only [hX, hW]

end Cert.GatherMul

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.Same
public import proofs.«01_k».proof.Proof.Value
public import Idealize.ShloMosaic.Adequacy
public import Idealize.ShloMosaic.Init

@[expose] public section

noncomputable section

namespace Cert.Proof

open Idealize.ShloMosaic Idealize.SL.Sem Cert.Kernel

/-- The kernel terminates on any float values, its arguments unchanged and every counter at zero: here at bit patterns, -/
theorem frame_kernel : Cert.quiescent_Kernel := fun m ρ _ =>
  Cert.GatherMul.same_runs _ _ ((θ_run Cert.KernelIdeal.defs _ _).mono (fun _ h => ⟨fun c => (h.1 c).2, h.2⟩) (Cert.GatherMul.run_main (F := Bits) m ρ))

/-- and here at the ideal values. -/
theorem frame_ideal : Cert.quiescent_KernelIdeal := fun m ρ _ =>
  (θ_run Cert.KernelIdeal.defs _ _).mono (fun _ h => ⟨fun c => (h.1 c).2, h.2⟩) (Cert.GatherMul.run_main (F := Ideal) m ρ)

/-- The reference's result is the whole array of which each device ends holding its block of columns. -/
theorem algebraic : Cert.algebraic_KernelIdeal_ReferenceIdeal := fun m ρ m' ρ' _ hblk =>
  ⟨_, (θ_run Cert.KernelIdeal.defs _ _).mono (fun _ h c => ⟨(h.1 c).1.trans (Cert.GatherMul.block_entry m ρ c _ _ _ _ (fun d => (hblk d).1)
      (hblk c).2.1 (hblk c).2.2.1 (hblk c).2.2.2), (h.1 c).2⟩) (Cert.GatherMul.run_main (F := Ideal) m ρ),
    (θ_run Cert.ReferenceIdeal.defs _ _).mono (fun _ h => h 0) (Cert.ReferenceIdeal.Value.run (F := Ideal) m' ρ')⟩

theorem claim : Cert.Claim := ⟨Cert.Kernel.Gen.facts, Cert.KernelIdeal.Gen.facts, Cert.ReferenceIdeal.Gen.facts,
  frame_kernel, frame_ideal, fun m ρ _ => Cert.ReferenceIdeal.Gen.frame m ρ, trivial, algebraic⟩

end Cert.Proof

end
